-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "scale" .f32 0x4166D4CA#32 ((10 * (Real.log 2)⁻¹ : ℝ) : EReal)
  ∧ IdealRules.named_const.Statement Cert.KernelIdeal.κ "boundary" .f32 0xCB5C2346#32 ⊥
  ∧ IdealRules.named_const.Statement Cert.KernelIdeal.κ "inv_ln2" .f32 0x3FB8AA3B#32 (((Real.log 2)⁻¹ : ℝ) : EReal)
  ∧ IdealRules.named_const.Statement Cert.KernelIdeal.κ "unscale" .f32 0xBD8DF4E0#32 (((-1 / 10) * (Real.log 2) : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S_ : Shape := ⟨0, ![]⟩
abbrev S1536x256 : Shape := ⟨2, ![1536, 256]⟩
abbrev S1 : Shape := ⟨1, ![1]⟩
abbrev S2x1x128 : Shape := ⟨3, ![2, 1, 128]⟩
abbrev S512x128 : Shape := ⟨2, ![512, 128]⟩
abbrev S1536x128 : Shape := ⟨2, ![1536, 128]⟩
abbrev S1x1x128 : Shape := ⟨3, ![1, 1, 128]⟩
abbrev S1x128 : Shape := ⟨2, ![1, 128]⟩
abbrev S64x128 : Shape := ⟨2, ![64, 128]⟩
abbrev S63x128 : Shape := ⟨2, ![63, 128]⟩
abbrev S128x128 : Shape := ⟨2, ![128, 128]⟩
abbrev S127x128 : Shape := ⟨2, ![127, 128]⟩
abbrev S256x128 : Shape := ⟨2, ![256, 128]⟩
abbrev S255x128 : Shape := ⟨2, ![255, 128]⟩
abbrev S511x128 : Shape := ⟨2, ![511, 128]⟩
abbrev S128 : Shape := ⟨1, ![128]⟩
abbrev S256 : Shape := ⟨1, ![256]⟩

abbrev nBuf : Space → Nat
  | .hbm => 19
  | .vmem => 6
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S_, .f32⟩
  | .hbm, ⟨6, _⟩ => ⟨S1536x256, .f32⟩
  | .hbm, ⟨7, _⟩ => ⟨S_, .i32⟩
  | .hbm, ⟨8, _⟩ => ⟨S1, .i32⟩
  | .hbm, ⟨9, _⟩ => ⟨S1536x256, .f32⟩
  | .hbm, ⟨10, _⟩ => ⟨S2x1x128, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S1536x128, .f32⟩
  | .local _ .vmem, ⟨3, _⟩ => ⟨S1536x128, .f32⟩
  | .local _ .vmem, ⟨4, _⟩ => ⟨S1x1x128, .f32⟩
  | .local _ .vmem, ⟨5, _⟩ => ⟨S1x1x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c3_i32 : BitVec 32 := 3#32
  let c63_i32 : BitVec 32 := 63#32
  let v38 : BitVec 32 := Scalar.addi c3_i32 c63_i32
  let c1_i32 : BitVec 32 := 1#32
  ⟨c3_i32, v38, c1_i32⟩
def k0_off1 (k0_t1 : Fin k0_t1_loop.trips) : Fin 2 → Nat :=
  let c1024_i32 : BitVec 32 := 1024#32
  let c3_i32 : BitVec 32 := 3#32
  let c1_i32 : BitVec 32 := 1#32
  let arg4 : BitVec 32 := Scf.iv c3_i32 c1_i32 k0_t1
  let v237 : BitVec 32 := Scalar.subi c1024_i32 arg4
  let v238 : Index := Scalar.indexCast v237
  let c0_47 : Index := 0#32
  ![v238.toNat, 0]
@[reducible] def k0_t2_loop : Scf.Loop 32 :=
  let c66_i32 : BitVec 32 := 66#32
  let c64_i32 : BitVec 32 := 64#32
  let v43 : BitVec 32 := Scalar.addi c66_i32 c64_i32
  let c1_i32_8 : BitVec 32 := 1#32
  ⟨c66_i32, v43, c1_i32_8⟩
def k0_off2 (k0_t2 : Fin k0_t2_loop.trips) : Fin 2 → Nat :=
  let c1024_i32 : BitVec 32 := 1024#32
  let c66_i32 : BitVec 32 := 66#32
  let c1_i32_8 : BitVec 32 := 1#32
  let arg4 : BitVec 32 := Scf.iv c66_i32 c1_i32_8 k0_t2
  let v237 : BitVec 32 := Scalar.subi c1024_i32 arg4
  let v238 : Index := Scalar.indexCast v237
  let c0_47 : Index := 0#32
  ![v238.toNat, 0]
@[reducible] def k0_t3_loop : Scf.Loop 32 :=
  let c130_i32 : BitVec 32 := 130#32
  let c128_i32 : BitVec 32 := 128#32
  let v49 : BitVec 32 := Scalar.addi c130_i32 c128_i32
  let c1_i32_10 : BitVec 32 := 1#32
  ⟨c130_i32, v49, c1_i32_10⟩
def k0_off3 (k0_t3 : Fin k0_t3_loop.trips) : Fin 2 → Nat :=
  let c1024_i32 : BitVec 32 := 1024#32
  let c130_i32 : BitVec 32 := 130#32
  let c1_i32_10 : BitVec 32 := 1#32
  let arg4 : BitVec 32 := Scf.iv c130_i32 c1_i32_10 k0_t3
  let v237 : BitVec 32 := Scalar.subi c1024_i32 arg4
  let v238 : Index := Scalar.indexCast v237
  let c0_47 : Index := 0#32
  ![v238.toNat, 0]
@[reducible] def k0_t4_loop : Scf.Loop 32 :=
  let c258_i32 : BitVec 32 := 258#32
  let c511_i32 : BitVec 32 := 511#32
  let v54 : BitVec 32 := Scalar.addi c258_i32 c511_i32
  let c1_i32_12 : BitVec 32 := 1#32
  ⟨c258_i32, v54, c1_i32_12⟩
def k0_off4 (k0_t4 : Fin k0_t4_loop.trips) : Fin 2 → Nat :=
  let c1024_i32 : BitVec 32 := 1024#32
  let c258_i32 : BitVec 32 := 258#32
  let c1_i32_12 : BitVec 32 := 1#32
  let arg4 : BitVec 32 := Scf.iv c258_i32 c1_i32_12 k0_t4
  let v237 : BitVec 32 := Scalar.subi c1024_i32 arg4
  let v238 : Index := Scalar.indexCast v237
  let c0_47 : Index := 0#32
  ![v238.toNat, 0]
@[reducible] def k0_t5_loop : Scf.Loop 32 :=
  let c771_i32 : BitVec 32 := 771#32
  let c126_i32 : BitVec 32 := 126#32
  let v112 : BitVec 32 := Scalar.addi c771_i32 c126_i32
  let c1_i32_20 : BitVec 32 := 1#32
  ⟨c771_i32, v112, c1_i32_20⟩
def k0_off5 (k0_t5 : Fin k0_t5_loop.trips) : Fin 2 → Nat :=
  let c1280_i32 : BitVec 32 := 1280#32
  let c771_i32 : BitVec 32 := 771#32
  let c1_i32_20 : BitVec 32 := 1#32
  let arg4 : BitVec 32 := Scf.iv c771_i32 c1_i32_20 k0_t5
  let v237 : BitVec 32 := Scalar.subi c1280_i32 arg4
  let v238 : Index := Scalar.indexCast v237
  let c0_47 : Index := 0#32
  ![v238.toNat, 0]
@[reducible] def k0_t6_loop : Scf.Loop 32 :=
  let c899_i32 : BitVec 32 := 899#32
  let c62_i32 : BitVec 32 := 62#32
  let v170 : BitVec 32 := Scalar.addi c899_i32 c62_i32
  let c1_i32_30 : BitVec 32 := 1#32
  ⟨c899_i32, v170, c1_i32_30⟩
def k0_off6 (k0_t6 : Fin k0_t6_loop.trips) : Fin 2 → Nat :=
  let c1408_i32 : BitVec 32 := 1408#32
  let c899_i32 : BitVec 32 := 899#32
  let c1_i32_30 : BitVec 32 := 1#32
  let arg4 : BitVec 32 := Scf.iv c899_i32 c1_i32_30 k0_t6
  let v237 : BitVec 32 := Scalar.subi c1408_i32 arg4
  let v238 : Index := Scalar.indexCast v237
  let c0_47 : Index := 0#32
  ![v238.toNat, 0]
@[reducible] def k0_t7_loop : Scf.Loop 32 :=
  let c963_i32 : BitVec 32 := 963#32
  let c62_i32_40 : BitVec 32 := 62#32
  let v228 : BitVec 32 := Scalar.addi c963_i32 c62_i32_40
  let c1_i32_41 : BitVec 32 := 1#32
  ⟨c963_i32, v228, c1_i32_41⟩
def k0_off7 (k0_t7 : Fin k0_t7_loop.trips) : Fin 2 → Nat :=
  let c1472_i32 : BitVec 32 := 1472#32
  let c963_i32 : BitVec 32 := 963#32
  let c1_i32_41 : BitVec 32 := 1#32
  let arg4 : BitVec 32 := Scf.iv c963_i32 c1_i32_41 k0_t7
  let v237 : BitVec 32 := Scalar.subi c1472_i32 arg4
  let v238 : Index := Scalar.indexCast v237
  let c0_47 : Index := 0#32
  ![v238.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "boundary" => some ⊥
  | "inv_ln2" => some (((Real.log 2)⁻¹ : ℝ) : EReal)
  | "scale" => some ((10 * (Real.log 2)⁻¹ : ℝ) : EReal)
  | "unscale" => some (((-1 / 10) * (Real.log 2) : ℝ) : EReal)
  | _ => none
-- ==== ReferenceIdeal.lean ====
abbrev S256x512 : Shape := ⟨2, ![256, 512]⟩
abbrev S256x512x1 : Shape := ⟨3, ![256, 512, 1]⟩
abbrev S256x1x512 : Shape := ⟨3, ![256, 1, 512]⟩
abbrev S256x512x512 : Shape := ⟨3, ![256, 512, 512]⟩
abbrev S513 : Shape := ⟨1, ![513]⟩
abbrev S_ : Shape := ⟨0, ![]⟩
abbrev S256x1 : Shape := ⟨2, ![256, 1]⟩
abbrev S256x513 : Shape := ⟨2, ![256, 513]⟩
abbrev S1 : Shape := ⟨1, ![1]⟩
abbrev S256 : Shape := ⟨1, ![256]⟩
abbrev S1x256x513 : Shape := ⟨3, ![1, 256, 513]⟩
abbrev S2x256x513 : Shape := ⟨3, ![2, 256, 513]⟩
abbrev S513x1 : Shape := ⟨2, ![513, 1]⟩
abbrev S513x2 : Shape := ⟨2, ![513, 2]⟩
abbrev S1x513 : Shape := ⟨2, ![1, 513]⟩
abbrev S1x256x1 : Shape := ⟨3, ![1, 256, 1]⟩

abbrev nBuf : Space → Nat
  | .hbm => 139
  | .vmem => 0
  | .smem => 0
  | _ => 0

abbrev hbmTy0_0 (i : Nat) : BufTy := match i % 128 with
  | 0 => ⟨S256x512, .f32⟩
  | 1 => ⟨S256x512, .f32⟩
  | 2 => ⟨S256x512x1, .f32⟩
  | 3 => ⟨S256x1x512, .f32⟩
  | 4 => ⟨S256x512x512, .f32⟩
  | 5 => ⟨S256x512x512, .f32⟩
  | 6 => ⟨S256x512x512, .f32⟩
  | 7 => ⟨S256x512x512, .f32⟩
  | 8 => ⟨S513, .i32⟩
  | 9 => ⟨S_, .i32⟩
  | 10 => ⟨S513, .i32⟩
  | 11 => ⟨S513, .i32⟩
  | 12 => ⟨S_, .i32⟩
  | 13 => ⟨S_, .i32⟩
  | 14 => ⟨S_, .i32⟩
  | 15 => ⟨S513, .i32⟩
  | 16 => ⟨S513, .i32⟩
  | 17 => ⟨S_, .i32⟩
  | 18 => ⟨S513, .i32⟩
  | 19 => ⟨S513, .i32⟩
  | 20 => ⟨S_, .f32⟩
  | 21 => ⟨S256x1, .f32⟩
  | 22 => ⟨S_, .f32⟩
  | 23 => ⟨S256x513, .f32⟩
  | 24 => ⟨S_, .i32⟩
  | 25 => ⟨S1, .i32⟩
  | 26 => ⟨S_, .f32⟩
  | 27 => ⟨S256, .f32⟩
  | 28 => ⟨S256x513, .f32⟩
  | 29 => ⟨S_, .f32⟩
  | 30 => ⟨S256x513, .f32⟩
  | 31 => ⟨S1x256x513, .f32⟩
  | 32 => ⟨S1x256x513, .f32⟩
  | 33 => ⟨S2x256x513, .f32⟩
  | 34 => ⟨S_, .i32⟩
  | 35 => ⟨S_, .i32⟩
  | 36 => ⟨S256x1, .f32⟩
  | 37 => ⟨S513, .i32⟩
  | 38 => ⟨S513, .i32⟩
  | 39 => ⟨S256x512x512, .f32⟩
  | 40 => ⟨S_, .i32⟩
  | 41 => ⟨S_, .i32⟩
  | 42 => ⟨S2x256x513, .f32⟩
  | 43 => ⟨S_, .i32⟩
  | 44 => ⟨S_, .i1⟩
  | 45 => ⟨S_, .i32⟩
  | 46 => ⟨S_, .i32⟩
  | 47 => ⟨S1x256x513, .f32⟩
  | 48 => ⟨S256x513, .f32⟩
  | 49 => ⟨S1x256x513, .f32⟩
  | 50 => ⟨S256x513, .f32⟩
  | 51 => ⟨S256x512, .f32⟩
  | 52 => ⟨S256x513, .f32⟩
  | 53 => ⟨S256x512, .f32⟩
  | 54 => ⟨S256x513, .f32⟩
  | 55 => ⟨S256x513, .f32⟩
  | 56 => ⟨S_, .f32⟩
  | 57 => ⟨S256x513, .f32⟩
  | 58 => ⟨S256x513, .f32⟩
  | 59 => ⟨S256x513, .f32⟩
  | 60 => ⟨S_, .f32⟩
  | 61 => ⟨S256x513, .f32⟩
  | 62 => ⟨S256x513, .f32⟩
  | 63 => ⟨S256x513, .f32⟩
  | 64 => ⟨S_, .f32⟩
  | 65 => ⟨S256x513, .f32⟩
  | 66 => ⟨S256x513, .f32⟩
  | 67 => ⟨S256x513, .f32⟩
  | 68 => ⟨S256x513, .f32⟩
  | 69 => ⟨S256x513, .f32⟩
  | 70 => ⟨S256x513, .f32⟩
  | 71 => ⟨S256x513, .f32⟩
  | 72 => ⟨S256x513, .f32⟩
  | 73 => ⟨S256x513, .f32⟩
  | 74 => ⟨S256x513, .f32⟩
  | 75 => ⟨S256x513, .f32⟩
  | 76 => ⟨S256x513, .f32⟩
  | 77 => ⟨S256x513, .f32⟩
  | 78 => ⟨S256x513, .f32⟩
  | 79 => ⟨S256x513, .f32⟩
  | 80 => ⟨S_, .f32⟩
  | 81 => ⟨S256x513, .f32⟩
  | 82 => ⟨S256x513, .f32⟩
  | 83 => ⟨S_, .i32⟩
  | 84 => ⟨S513, .i32⟩
  | 85 => ⟨S513, .i32⟩
  | 86 => ⟨S_, .i32⟩
  | 87 => ⟨S513, .i32⟩
  | 88 => ⟨S513, .i32⟩
  | 89 => ⟨S_, .i32⟩
  | 90 => ⟨S_, .i32⟩
  | 91 => ⟨S_, .i32⟩
  | 92 => ⟨S513, .i32⟩
  | 93 => ⟨S513, .i32⟩
  | 94 => ⟨S_, .i32⟩
  | 95 => ⟨S513, .i32⟩
  | 96 => ⟨S513, .i32⟩
  | 97 => ⟨S513x1, .i32⟩
  | 98 => ⟨S513x1, .i32⟩
  | 99 => ⟨S513x2, .i32⟩
  | 100 => ⟨S256x513, .f32⟩
  | 101 => ⟨S_, .i32⟩
  | 102 => ⟨S513, .i32⟩
  | 103 => ⟨S513, .i1⟩
  | 104 => ⟨S_, .i32⟩
  | 105 => ⟨S513, .i32⟩
  | 106 => ⟨S513, .i32⟩
  | 107 => ⟨S_, .i32⟩
  | 108 => ⟨S513, .i32⟩
  | 109 => ⟨S513, .i1⟩
  | 110 => ⟨S513, .i1⟩
  | 111 => ⟨S_, .i32⟩
  | 112 => ⟨S513, .i32⟩
  | 113 => ⟨S513, .i32⟩
  | 114 => ⟨S_, .i32⟩
  | 115 => ⟨S513, .i32⟩
  | 116 => ⟨S513, .i1⟩
  | 117 => ⟨S513, .i1⟩
  | 118 => ⟨S1x513, .i1⟩
  | 119 => ⟨S256x513, .f32⟩
  | 120 => ⟨S_, .f32⟩
  | 121 => ⟨S_, .f32⟩
  | 122 => ⟨S256x513, .i1⟩
  | 123 => ⟨S256x513, .f32⟩
  | 124 => ⟨S256x513, .f32⟩
  | 125 => ⟨S1x256x513, .f32⟩
  | 126 => ⟨S1x256x513, .f32⟩
  | 127 => ⟨S2x256x513, .f32⟩
  | _ => ⟨S256x512, .f32⟩

abbrev hbmTy0_1 (i : Nat) : BufTy := match i % 128 with
  | 0 => ⟨S_, .i32⟩
  | 1 => ⟨S_, .i32⟩
  | 2 => ⟨S1x256x1, .f32⟩
  | 3 => ⟨S256, .f32⟩
  | 4 => ⟨S_, .f32⟩
  | 5 => ⟨S256, .f32⟩
  | 6 => ⟨S256, .f32⟩
  | 7 => ⟨S_, .f32⟩
  | 8 => ⟨S_, .f32⟩
  | 9 => ⟨S_, .f32⟩
  | 10 => ⟨S_, .f32⟩
  | _ => ⟨S256x512, .f32⟩

abbrev hbmTy (i : Nat) : BufTy := match i / 128 with
  | 0 => hbmTy0_0 i
  | 1 => hbmTy0_1 i
  | _ => ⟨S256x512, .f32⟩

abbrev bufTy : (tb : Table) → Fin (tcTables nBuf tb) → BufTy
  | .hbm, ⟨i, _⟩ => hbmTy i
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_6 : Ref sig .tc := ⟨.hbm, 34, rfl⟩
abbrev main_c_7 : Ref sig .tc := ⟨.hbm, 35, rfl⟩
abbrev main_v19_0 : Ref sig .tc := ⟨.hbm, 36, rfl⟩
abbrev main_v19_1 : Ref sig .tc := ⟨.hbm, 37, rfl⟩
abbrev main_v19_2 : Ref sig .tc := ⟨.hbm, 38, rfl⟩
abbrev main_v19_3 : Ref sig .tc := ⟨.hbm, 39, rfl⟩
abbrev main_v19_4 : Ref sig .tc := ⟨.hbm, 40, rfl⟩
abbrev main_v19_5 : Ref sig .tc := ⟨.hbm, 41, rfl⟩
abbrev main_v19_6 : Ref sig .tc := ⟨.hbm, 42, rfl⟩
abbrev main_while0c_c_17 : Ref sig .tc := ⟨.hbm, 43, rfl⟩
abbrev main_while0c_v26 : Ref sig .tc := ⟨.hbm, 44, rfl⟩
abbrev main_while0b_c_17 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_cst_18 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_cst_19 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_cst_20 : Ref sig .tc := ⟨.hbm, 64, rfl⟩
abbrev main_while0b_v42 : Ref sig .tc := ⟨.hbm, 65, rfl⟩
abbrev main_while0b_v43 : Ref sig .tc := ⟨.hbm, 66, rfl⟩
abbrev main_while0b_v44 : Ref sig .tc := ⟨.hbm, 67, rfl⟩
abbrev main_while0b_v45 : Ref sig .tc := ⟨.hbm, 68, rfl⟩
abbrev main_while0b_v46 : Ref sig .tc := ⟨.hbm, 69, rfl⟩
abbrev main_while0b_v47 : Ref sig .tc := ⟨.hbm, 70, rfl⟩
abbrev main_while0b_v48 : Ref sig .tc := ⟨.hbm, 71, rfl⟩
abbrev main_while0b_v49 : Ref sig .tc := ⟨.hbm, 72, rfl⟩
abbrev main_while0b_v50 : Ref sig .tc := ⟨.hbm, 73, rfl⟩
abbrev main_while0b_v51 : Ref sig .tc := ⟨.hbm, 74, rfl⟩
abbrev main_while0b_v52 : Ref sig .tc := ⟨.hbm, 75, rfl⟩
abbrev main_while0b_v53 : Ref sig .tc := ⟨.hbm, 76, rfl⟩
abbrev main_while0b_v54 : Ref sig .tc := ⟨.hbm, 77, rfl⟩
abbrev main_while0b_v55 : Ref sig .tc := ⟨.hbm, 78, rfl⟩
abbrev main_while0b_v56 : Ref sig .tc := ⟨.hbm, 79, rfl⟩
abbrev main_while0b_cst_21 : Ref sig .tc := ⟨.hbm, 80, rfl⟩
abbrev main_while0b_v57 : Ref sig .tc := ⟨.hbm, 81, rfl⟩
abbrev main_while0b_v58 : Ref sig .tc := ⟨.hbm, 82, rfl⟩
abbrev main_while0b_v59 : Ref sig .tc := ⟨.hbm, 83, rfl⟩
abbrev main_while0b_v60 : Ref sig .tc := ⟨.hbm, 84, rfl⟩
abbrev main_while0b_v61 : Ref sig .tc := ⟨.hbm, 85, rfl⟩
abbrev main_while0b_c_22 : Ref sig .tc := ⟨.hbm, 86, rfl⟩
abbrev main_while0b_v62 : Ref sig .tc := ⟨.hbm, 87, rfl⟩
abbrev main_while0b_v63 : Ref sig .tc := ⟨.hbm, 88, rfl⟩
abbrev main_while0b_c_23 : Ref sig .tc := ⟨.hbm, 89, rfl⟩
abbrev main_while0b_c_24 : Ref sig .tc := ⟨.hbm, 90, rfl⟩
abbrev main_while0b_call1_v0 : Ref sig .tc := ⟨.hbm, 91, rfl⟩
abbrev main_while0b_call1_v1 : Ref sig .tc := ⟨.hbm, 92, rfl⟩
abbrev main_while0b_call1_v2 : Ref sig .tc := ⟨.hbm, 93, rfl⟩
abbrev main_while0b_call1_v3 : Ref sig .tc := ⟨.hbm, 94, rfl⟩
abbrev main_while0b_call1_v4 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_c_25 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_c_26 : Ref sig .tc := ⟨.hbm, 107, rfl⟩
abbrev main_while0b_v74 : Ref sig .tc := ⟨.hbm, 108, rfl⟩
abbrev main_while0b_v75 : Ref sig .tc := ⟨.hbm, 109, rfl⟩
abbrev main_while0b_v76 : Ref sig .tc := ⟨.hbm, 110, rfl⟩
abbrev main_while0b_v77 : Ref sig .tc := ⟨.hbm, 111, rfl⟩
abbrev main_while0b_v78 : Ref sig .tc := ⟨.hbm, 112, rfl⟩
abbrev main_while0b_v79 : Ref sig .tc := ⟨.hbm, 113, rfl⟩
abbrev main_while0b_c_27 : Ref sig .tc := ⟨.hbm, 114, rfl⟩
abbrev main_while0b_v80 : Ref sig .tc := ⟨.hbm, 115, rfl⟩
abbrev main_while0b_v81 : Ref sig .tc := ⟨.hbm, 116, rfl⟩
abbrev main_while0b_v82 : Ref sig .tc := ⟨.hbm, 117, rfl⟩
abbrev main_while0b_v83 : Ref sig .tc := ⟨.hbm, 118, rfl⟩
abbrev main_while0b_v84 : Ref sig .tc := ⟨.hbm, 119, rfl⟩
abbrev main_while0b_cst_28 : Ref sig .tc := ⟨.hbm, 120, rfl⟩
abbrev main_while0b_call2_v0 : Ref sig .tc := ⟨.hbm, 121, rfl⟩
abbrev main_while0b_call2_v1 : Ref sig .tc := ⟨.hbm, 122, rfl⟩
abbrev main_while0b_call2_v2 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_c_29 : Ref sig .tc := ⟨.hbm, 128, rfl⟩
abbrev main_while0b_v89 : Ref sig .tc := ⟨.hbm, 129, rfl⟩
abbrev main_v20 : Ref sig .tc := ⟨.hbm, 130, rfl⟩
abbrev main_v21 : Ref sig .tc := ⟨.hbm, 131, rfl⟩
abbrev main_cst_8 : Ref sig .tc := ⟨.hbm, 132, rfl⟩
abbrev main_v22 : Ref sig .tc := ⟨.hbm, 133, rfl⟩
abbrev main_v23 : Ref sig .tc := ⟨.hbm, 134, rfl⟩
abbrev main_cst_9 : Ref sig .tc := ⟨.hbm, 135, rfl⟩
abbrev main_v24 : Ref sig .tc := ⟨.hbm, 136, rfl⟩
abbrev main_cst_10 : Ref sig .tc := ⟨.hbm, 137, rfl⟩
abbrev main_v25 : Ref sig .tc := ⟨.hbm, 138, rfl⟩

abbrev nD : Nat := 1
abbrev τ : Topo := Topo.v7x

variable {F : FTy → Type} [FloatOps F]

abbrev main_while0_count : Scf.Loop 32 := ⟨0#32, 1023#32, 1#32⟩
-- ==== Proof.Sdtw.Spec.lean ====
/-
  Soft dynamic time warping over the extended reals, with no program in sight: the anti-diagonal recurrence, the same
  recurrence in the kernel's scaled base-2 form, and the equation between one step of each.
-/
module

public import Idealize.ShloMosaic.PureOps.Ideal

@[expose] public section

noncomputable section

namespace Sdtw

open Idealize.ShloMosaic

/-- The distance of two samples, `|a - b|`. -/
def dist (a b : EReal) : EReal := max (a - b) (-(a - b))

/-- The logarithm of the sum of the exponentials of three numbers, their maximum taken out first. -/
def lse (a0 a1 a2 : EReal) : EReal :=
  Ideal.log (Ideal.exp (a0 - max (max a0 a1) a2) + Ideal.exp (a1 - max (max a0 a1) a2)
    + Ideal.exp (a2 - max (max a0 a1) a2)) + max (max a0 a1) a2

/-- The soft minimum at `γ = 1/10`: `-γ · log Σ exp (-r/γ)`. -/
def softmin (r0 r1 r2 : EReal) : EReal :=
  -(lse (-r0 * (10 : ℝ)) (-r1 * (10 : ℝ)) (-r2 * (10 : ℝ))) * ((1 / 10 : ℝ) : EReal)

/-- Cell `i` of anti-diagonal `k` of the soft-DTW table of two sequences (`x` of any length, `y` of length 512): the cost of
    aligning the first `i` samples of `x` with the first `k - i` of `y`, infinite outside the table. -/
def R (x y : ℕ → EReal) : ℕ → ℕ → EReal
  | 0, i => if i = 0 then 0 else ⊤
  | 1, _ => ⊤
  | k + 2, i =>
    if 1 ≤ i ∧ i + 1 ≤ k + 2 ∧ k + 2 ≤ i + 512 then
      dist (x (i - 1)) (y (k + 2 - i - 1)) + softmin (R x y k (i - 1)) (R x y (k + 1) (i - 1)) (R x y (k + 1) i)
    else ⊤

/-- `1 / log 2`. -/
abbrev c2 : ℝ := (Real.log 2)⁻¹

/-- The kernel's scale, `10 / log 2`. -/
abbrev sc : ℝ := 10 * (Real.log 2)⁻¹

/-- The table as the kernel holds it: negated and scaled to base 2. -/
def T (x y : ℕ → EReal) (k i : ℕ) : EReal := R x y k i * ((-sc : ℝ) : EReal)

/-- The kernel's update of one cell from its three scaled neighbours and the scaled distance `e`. -/
def upd (b0 b1 b2 e : EReal) : EReal :=
  (Ideal.log (Ideal.exp2 (b0 - max (max b0 b1) b2) + Ideal.exp2 (b1 - max (max b0 b1) b2)
    + Ideal.exp2 (b2 - max (max b0 b1) b2)) * ((c2 : ℝ) : EReal) + max (max b0 b1) b2) - e

theorem log2_pos : 0 < Real.log 2 := Real.log_pos one_lt_two

theorem c2_pos : 0 < c2 := inv_pos.mpr log2_pos

theorem sc_pos : 0 < sc := mul_pos (by norm_num) c2_pos

/-! ## Multiplication by a positive real -/

theorem add_mul_pos {c : ℝ} (hc : 0 < c) (x y : EReal) : (x + y) * (c : EReal) = x * c + y * c :=
  EReal.right_distrib_of_nonneg_of_ne_top (by exact_mod_cast hc.le) (EReal.coe_ne_top _) x y

theorem sub_mul_pos {c : ℝ} (hc : 0 < c) (x y : EReal) : (x - y) * (c : EReal) = x * c - y * c := by
  rw [sub_eq_add_neg, add_mul_pos hc, EReal.neg_mul, ← sub_eq_add_neg]

theorem max_mul_pos {c : ℝ} (hc : 0 < c) (x y : EReal) : max x y * (c : EReal) = max (x * c) (y * c) := by
  have h : Monotone fun z : EReal => z * (c : EReal) := fun a b hab =>
    mul_le_mul_of_nonneg_right hab (by exact_mod_cast hc.le)
  exact h.map_max

/-- Scaling the samples scales their distance. -/
theorem dist_mul_pos {c : ℝ} (hc : 0 < c) (a b : EReal) :
    dist (a * c) (b * c) = dist a b * (c : EReal) := by
  unfold dist
  rw [max_mul_pos hc, ← sub_mul_pos hc, EReal.neg_mul]

theorem dist_nonneg (a b : EReal) : 0 ≤ dist a b := by
  unfold dist
  rcases le_total 0 (a - b) with h | h
  · exact le_max_of_le_left h
  · exact le_max_of_le_right (EReal.neg_nonneg.mpr h)

theorem dist_ne_bot (a b : EReal) : dist a b ≠ ⊥ := fun h => by
  have := dist_nonneg a b
  rw [h] at this
  exact absurd this (by simp)

/-- `2 ^ (z / log 2) = e ^ z`. -/
theorem exp2_mul_c2 (z : EReal) : Ideal.exp2 (z * ((c2 : ℝ) : EReal)) = Ideal.exp z := by
  induction z using EReal.rec with
  | bot => rw [EReal.bot_mul_coe_of_pos c2_pos]; simp
  | top => rw [EReal.top_mul_coe_of_pos c2_pos]; simp
  | coe r =>
    rw [← EReal.coe_mul, Ideal.exp2_coe, Ideal.exp_coe]
    congr 1
    show (2 : ℝ) ^ (r * c2) = _
    rw [Real.rpow_def_of_pos two_pos]
    congr 1
    have := log2_pos.ne'
    field_simp

/-- The kernel's update without the distance is the logarithm of the sum of exponentials, scaled. -/
theorem upd_eq_lse (a0 a1 a2 e : EReal) :
    upd (a0 * ((c2 : ℝ) : EReal)) (a1 * ((c2 : ℝ) : EReal)) (a2 * ((c2 : ℝ) : EReal)) e
      = lse a0 a1 a2 * ((c2 : ℝ) : EReal) - e := by
  unfold upd lse
  simp only [← max_mul_pos c2_pos, ← sub_mul_pos c2_pos, exp2_mul_c2, ← add_mul_pos c2_pos]

/-! ## Corners -/

theorem exp_ne_top {z : EReal} (h : z ≠ ⊤) : Ideal.exp z ≠ ⊤ := by
  induction z using EReal.rec with
  | bot => simp
  | top => exact absurd rfl h
  | coe r => rw [Ideal.exp_coe]; exact EReal.coe_ne_top _

theorem log_ne_top {z : EReal} (h : z ≠ ⊤) : Ideal.log z ≠ ⊤ := by
  induction z using EReal.rec with
  | bot => simp
  | top => exact absurd rfl h
  | coe r => rw [Ideal.log_coe]; split_ifs <;> simp

theorem sub_ne_top {a m : EReal} (ha : a ≠ ⊤) (h : a ≤ m) : a - m ≠ ⊤ := by
  induction m using EReal.rec with
  | bot => rw [le_bot_iff.mp h]; simp
  | top => rw [EReal.sub_top]; simp
  | coe r =>
    induction a using EReal.rec with
    | bot => simp
    | top => exact absurd rfl ha
    | coe q => rw [← EReal.coe_sub]; exact EReal.coe_ne_top _

/-- No infinite cost appears from three costs above `-∞`. -/
theorem lse_ne_top {a0 a1 a2 : EReal} (h0 : a0 ≠ ⊤) (h1 : a1 ≠ ⊤) (h2 : a2 ≠ ⊤) : lse a0 a1 a2 ≠ ⊤ := by
  have hm : max (max a0 a1) a2 ≠ ⊤ := by
    rcases max_choice (max a0 a1) a2 with h | h <;> rw [h]
    · rcases max_choice a0 a1 with h | h <;> rw [h] <;> assumption
    · assumption
  have e0 := exp_ne_top (sub_ne_top h0 (le_trans (le_max_left a0 a1) (le_max_left _ a2)))
  have e1 := exp_ne_top (sub_ne_top h1 (le_trans (le_max_right a0 a1) (le_max_left _ a2)))
  have e2 := exp_ne_top (sub_ne_top h2 (le_max_right (max a0 a1) a2))
  exact EReal.add_ne_top (log_ne_top (EReal.add_ne_top (EReal.add_ne_top e0 e1) e2)) hm

theorem neg_mul_ten_ne_top {r : EReal} (h : r ≠ ⊥) : -r * ((10 : ℝ) : EReal) ≠ ⊤ := by
  induction r using EReal.rec with
  | bot => exact absurd rfl h
  | top => rw [EReal.neg_top, EReal.bot_mul_coe_of_pos (by norm_num)]; simp
  | coe q => rw [← EReal.coe_neg, ← EReal.coe_mul]; exact EReal.coe_ne_top _

theorem softmin_ne_bot {r0 r1 r2 : EReal} (h0 : r0 ≠ ⊥) (h1 : r1 ≠ ⊥) (h2 : r2 ≠ ⊥) : softmin r0 r1 r2 ≠ ⊥ := by
  have h := lse_ne_top (neg_mul_ten_ne_top h0) (neg_mul_ten_ne_top h1) (neg_mul_ten_ne_top h2)
  unfold softmin
  generalize lse _ _ _ = L at h
  induction L using EReal.rec with
  | bot => rw [EReal.neg_bot, EReal.top_mul_coe_of_pos (by norm_num)]; simp
  | top => exact absurd rfl h
  | coe q => rw [← EReal.coe_neg, ← EReal.coe_mul]; exact EReal.coe_ne_bot _

theorem add_ne_bot {a b : EReal} (ha : a ≠ ⊥) (hb : b ≠ ⊥) : a + b ≠ ⊥ := fun h => by
  rcases EReal.add_eq_bot_iff.mp h with h | h <;> contradiction

/-- No cell of the table is `-∞`. -/
theorem R_ne_bot (x y : ℕ → EReal) : ∀ k i, R x y k i ≠ ⊥
  | 0, i => by unfold R; split_ifs <;> simp
  | 1, i => by unfold R; simp
  | k + 2, i => by
    rw [R]
    split_ifs
    · exact add_ne_bot (dist_ne_bot _ _)
        (softmin_ne_bot (R_ne_bot x y k _) (R_ne_bot x y (k + 1) _) (R_ne_bot x y (k + 1) _))
    · simp

/-! ## One step of the two recurrences -/

theorem mul_neg_sc (r : EReal) : r * ((-sc : ℝ) : EReal) = (-r * ((10 : ℝ) : EReal)) * ((c2 : ℝ) : EReal) := by
  rw [mul_assoc, ← EReal.coe_mul, EReal.neg_mul, EReal.coe_neg, mul_neg]

/-- The kernel's update at a cell of the table: the recurrence's cell, scaled. -/
theorem upd_scaled {r0 r1 r2 d : EReal} (h0 : r0 ≠ ⊥) (h1 : r1 ≠ ⊥) (h2 : r2 ≠ ⊥) (hd : d ≠ ⊥) :
    upd (r0 * ((-sc : ℝ) : EReal)) (r1 * ((-sc : ℝ) : EReal)) (r2 * ((-sc : ℝ) : EReal)) (d * ((sc : ℝ) : EReal))
      = (d + softmin r0 r1 r2) * ((-sc : ℝ) : EReal) := by
  have hw := softmin_ne_bot h0 h1 h2
  rw [mul_neg_sc r0, mul_neg_sc r1, mul_neg_sc r2, upd_eq_lse, EReal.coe_neg, mul_neg, add_mul_pos sc_pos,
    EReal.neg_add (Or.inl _) (Or.inr _)]
  · rw [sub_eq_add_neg, add_comm, sub_eq_add_neg]
    congr 1
    unfold softmin
    generalize lse _ _ _ = L
    rw [EReal.neg_mul, EReal.neg_mul, neg_neg, mul_assoc, ← EReal.coe_mul]
    congr 2
    unfold sc
    ring
  · intro h
    induction d using EReal.rec with
    | bot => exact hd rfl
    | top => rw [EReal.top_mul_coe_of_pos sc_pos] at h; simp at h
    | coe q => exact EReal.coe_ne_bot _ ((EReal.coe_mul q sc).trans h)
  · intro h
    generalize softmin r0 r1 r2 = w at hw h
    induction w using EReal.rec with
    | bot => exact hw rfl
    | top => rw [EReal.top_mul_coe_of_pos sc_pos] at h; simp at h
    | coe q => exact EReal.coe_ne_bot _ ((EReal.coe_mul q sc).trans h)

/-- With three infinite neighbours the update is infinite, whatever the distance. -/
theorem upd_bot (e : EReal) : upd ⊥ ⊥ ⊥ e = ⊥ := by
  unfold upd
  simp

/-- A cell left of the table (no sample of `y` used) is infinite, save the corner. -/
theorem T_left (x y : ℕ → EReal) (k i : ℕ) (h : k ≤ i) (h0 : 1 ≤ i) : T x y k i = ⊥ := by
  have : R x y k i = ⊤ := by
    match k with
    | 0 => unfold R; rw [if_neg (by omega)]
    | 1 => unfold R; rfl
    | k + 2 => rw [R, if_neg (by omega)]
  unfold T
  rw [this, EReal.top_mul_coe_of_neg (neg_lt_zero.mpr sc_pos)]

/-- Row 0 of the table is infinite past the corner. -/
theorem T_zero (x y : ℕ → EReal) (k : ℕ) (h : 1 ≤ k) : T x y k 0 = ⊥ := by
  have : R x y k 0 = ⊤ := by
    match k with
    | 1 => unfold R; rfl
    | k + 2 => rw [R, if_neg (by omega)]
  unfold T
  rw [this, EReal.top_mul_coe_of_neg (neg_lt_zero.mpr sc_pos)]

/-- The corner of the table costs nothing. -/
theorem T_corner (x y : ℕ → EReal) : T x y 0 0 = 0 := by
  unfold T R
  simp

/-- ONE STEP: the kernel's update of cell `i` of diagonal `k + 2` from the scaled neighbours gives the scaled cell, as long as
    the cell is not past the end of `y`; where the cell is in the table, `e` has to be the scaled distance. -/
theorem upd_T (x y : ℕ → EReal) (k i : ℕ) (e : EReal) (hi : 1 ≤ i) (hk : k + 2 ≤ i + 512)
    (he : i + 1 ≤ k + 2 → e = dist (x (i - 1) * ((sc : ℝ) : EReal)) (y (k + 2 - i - 1) * ((sc : ℝ) : EReal))) :
    upd (T x y k (i - 1)) (T x y (k + 1) (i - 1)) (T x y (k + 1) i) e = T x y (k + 2) i := by
  by_cases h : i + 1 ≤ k + 2
  · rw [he h, dist_mul_pos sc_pos]
    unfold T
    rw [upd_scaled (R_ne_bot x y _ _) (R_ne_bot x y _ _) (R_ne_bot x y _ _) (dist_ne_bot _ _), R.eq_3,
      if_pos ⟨hi, h, hk⟩]
  · rw [T_left x y (k + 2) i (by omega) hi, T_left x y (k + 1) i (by omega) hi]
    have h1 : T x y (k + 1) (i - 1) = ⊥ := by
      by_cases h2 : 1 ≤ i - 1
      · exact T_left x y (k + 1) (i - 1) (by omega) h2
      · rw [show i - 1 = 0 by omega]; exact T_zero x y (k + 1) (by omega)
    have h2 : T x y k (i - 1) = ⊥ := T_left x y k (i - 1) (by omega) (by omega)
    rw [h1, h2, upd_bot]

/-- Undoing the scale gives the table back. -/
theorem T_unscale (x y : ℕ → EReal) (k i : ℕ) :
    T x y k i * (((-1 / 10) * (Real.log 2) : ℝ) : EReal) = R x y k i := by
  unfold T
  rw [mul_assoc, ← EReal.coe_mul]
  have : (-sc : ℝ) * ((-1 / 10) * Real.log 2) = 1 := by
    have := log2_pos.ne'
    unfold sc
    field_simp
  rw [this, EReal.coe_one, mul_one]

end Sdtw

end
-- ==== Proof.Sdtw.Step.lean ====
module

public import proofs.«01_k».proof.Proof.Sdtw.Spec
public import proofs.«01_k».proof.Proof.Gen.KernelIdeal.Skeleton
public import Idealize.ShloMosaic.Lib.Pipeline.Value
public import Idealize.ShloMosaic.Lib.ValueIdxCore
public import Idealize.ShloMosaic.Lib.Pipeline.FrameBody

@[expose] public section

set_option maxRecDepth 16384

open Idealize Idealize.ShloMosaic Idealize.ShloMosaic.ValueIdx

noncomputable section

namespace Sdtw

/-- A block of `L` table rows for 128 pairs of sequences. -/
abbrev Blk (L : ℕ) : Type := FVec Ideal (⟨2, ![L, 128]⟩ : Shape) .f32

/-- The index of row `r` and lane `c`. -/
abbrev at2 {L : ℕ} (r : ℕ) (hr : r < L) (c : Fin 128) : (⟨2, ![L, 128]⟩ : Shape).Idx := ix2 (⟨r, hr⟩ : Fin L) c

/-- A block moved down by one row, with `r` as its new first row. -/
def down (M L : ℕ) (hs : (⟨2, ![L, 128]⟩ : Shape).Slices ![0, 0] ⟨2, ![M, 128]⟩)
    (hc : Shape.Concatenates [⟨2, ![1, 128]⟩, ⟨2, ![M, 128]⟩] ⟨2, ![L, 128]⟩ 0) (r : Blk 1) (a : Blk L) : Blk L :=
  concatenate ⟨2, ![L, 128]⟩ 0 [⟨⟨2, ![1, 128]⟩, r⟩, ⟨⟨2, ![M, 128]⟩, extractStridedSlice ⟨2, ![M, 128]⟩ ![0, 0] a hs⟩] hc

/-- The distances of a diagonal: the scaled rows of `x` less the rows of `y`, scaled here. -/
def dists (L : ℕ) (h : (⟨2, ![L, 128]⟩ : Shape).ShapeCasts ⟨2, ![L, 128]⟩) (xs yw : Blk L) : Blk L :=
  absf (subf xs (mulf (shapeCast ⟨2, ![L, 128]⟩ yw h)
    (broadcast ⟨2, ![L, 128]⟩ (Named.named Cert.KernelIdeal.κ "scale" 0x4166D4CA#32 : Ideal .f32))))

/-- The soft minimum in the scaled base-2 domain, with the distance taken off. -/
def soft (L : ℕ) (p q b d : Blk L) : Blk L :=
  subf (addf (mulf (log (addf (addf (exp2 (subf p (maximumf (maximumf p q) b))) (exp2 (subf q (maximumf (maximumf p q) b))))
    (exp2 (subf b (maximumf (maximumf p q) b)))))
    (broadcast ⟨2, ![L, 128]⟩ (Named.named Cert.KernelIdeal.κ "inv_ln2" 0x3FB8AA3B#32 : Ideal .f32)))
    (maximumf (maximumf p q) b)) d

theorem down_zero {M L : ℕ} (hs hc) (r : Blk 1) (a : Blk L) (hL : 0 < L) (c : Fin 128) :
    down M L hs hc r a (at2 0 hL c) = r (at2 0 (by omega) c) :=
  concatenate_pair_apply_left _ _ _ hc _ rfl _ fun b => by
    match b with
    | ⟨0, _⟩ => rfl
    | ⟨1, _⟩ => rfl

theorem down_succ {M L : ℕ} (hs hc) (r : Blk 1) (a : Blk L) (i : ℕ) (hM : M + 1 = L) (hi : i + 1 < L) (c : Fin 128) :
    down M L hs hc r a (at2 (i + 1) hi c) = a (at2 i (by omega) c) := by
  refine (concatenate_pair_apply_right _ _ _ hc _ rfl rfl (at2 i (by omega) c) (fun b hb => ?_) rfl).trans
    (extractStridedSlice_apply _ _ _ _ _ fun b => ?_)
  · match b with
    | ⟨0, _⟩ => exact absurd rfl hb
    | ⟨1, _⟩ => rfl
  · match b with
    | ⟨0, _⟩ => exact (Nat.zero_add _).symm
    | ⟨1, _⟩ => exact (Nat.zero_add _).symm

theorem dists_apply {L : ℕ} (h) (xs yw : Blk L) (j) :
    dists L h xs yw j = dist (xs j) (yw j * ((sc : ℝ) : EReal)) := by
  unfold dists
  rw [shapeCast_self]
  rfl

theorem soft_apply {L : ℕ} (p q b d : Blk L) (j) : soft L p q b d j = upd (p j) (q j) (b j) (d j) := rfl

/-- The block `v` holds rows `off + 1, off + 2, …` of diagonal `k` of the scaled table, where that diagonal's rows still reach
    the last column. -/
def Holds (x y : ℕ → EReal) (c : Fin 128) (k off : ℕ) {L : ℕ} (v : Blk L) : Prop :=
  ∀ r (hr : r < L), k ≤ off + r + 1 + 512 → v (at2 r hr c) = T x y k (off + r + 1)

/-- The row `v` holds row `off` of diagonal `k` of the scaled table, with the same proviso. -/
def HoldsRow (x y : ℕ → EReal) (c : Fin 128) (k off : ℕ) (v : Blk 1) : Prop :=
  k ≤ off + 512 → v (at2 0 Nat.one_pos c) = T x y k off

/-- The window `w` of the padded reversed `y` faces rows `off + 1, off + 2, …` of diagonal `k + 2`. -/
def YWin (y : ℕ → EReal) (c : Fin 128) (k off : ℕ) {L : ℕ} (w : Blk L) : Prop :=
  ∀ r (hr : r < L), off + r ≤ k → k + 1 ≤ off + r + 512 → w (at2 r hr c) = y (k - (off + r))

/-- The scaled rows of `x` from row `off` on. -/
def XRows (x : ℕ → EReal) (c : Fin 128) (off : ℕ) {L : ℕ} (w : Blk L) : Prop :=
  ∀ r (hr : r < L), w (at2 r hr c) = x (off + r) * ((sc : ℝ) : EReal)

/-- One step of the kernel: from two diagonals of the table to the next. -/
theorem step_holds {x y : ℕ → EReal} {c : Fin 128} {k off M L : ℕ} (hM : M + 1 = L) (hs hc h) {r0 r1 : Blk 1}
    {a b xs yw : Blk L} (h0 : HoldsRow x y c k off r0) (h1 : HoldsRow x y c (k + 1) off r1)
    (ha : Holds x y c k off a) (hb : Holds x y c (k + 1) off b)
    (hx : XRows x c off xs)
    (hy : YWin y c k off yw) :
    Holds x y c (k + 2) off (soft L (down M L hs hc r0 a) (down M L hs hc r1 b) b (dists L h xs yw)) := by
  intro r hr hk
  rw [soft_apply, dists_apply, hb r hr (by omega)]
  have e : off + r + 1 ≤ k + 1 → dist (xs (at2 r hr c)) (yw (at2 r hr c) * ((sc : ℝ) : EReal))
      = dist (x (off + r + 1 - 1) * ((sc : ℝ) : EReal)) (y (k + 2 - (off + r + 1) - 1) * ((sc : ℝ) : EReal)) := fun h => by
    rw [hx, hy r hr (by omega) (by omega), show off + r + 1 - 1 = off + r by omega,
      show k + 2 - (off + r + 1) - 1 = k - (off + r) by omega]
  refine Eq.trans ?_ (upd_T x y k (off + r + 1) _ (by omega) hk fun h => e (by omega))
  obtain rfl | ⟨i, rfl⟩ : r = 0 ∨ ∃ i, r = i + 1 := by cases r <;> simp
  · rw [down_zero, down_zero, h0 (by omega), h1 (by omega)]
    rfl
  · rw [down_succ _ _ _ _ _ hM, down_succ _ _ _ _ _ hM, ha i _ (by omega), hb i _ (by omega)]
    rfl

/-- A counted loop of such steps. -/
theorem loop_holds {x y : ℕ → EReal} {c : Fin 128} {k off M L n : ℕ} (hM : M + 1 = L) (hs hc h) {big : Blk 1}
    (hbig : ∀ k', k ≤ k' → HoldsRow x y c k' off big) {xs : Blk L} (hx : XRows x c off xs) (st : ℕ → Blk L × Blk L)
    (hst : ∀ j < n, ∃ w, YWin y c (k + j) off w ∧ st (j + 1) = ((st j).2,
      soft L (down M L hs hc big (st j).1) (down M L hs hc big (st j).2) (st j).2 (dists L h xs w)))
    (h0 : Holds x y c k off (st 0).1) (h1 : Holds x y c (k + 1) off (st 0).2) :
    ∀ j ≤ n, Holds x y c (k + j) off (st j).1 ∧ Holds x y c (k + j + 1) off (st j).2
  | 0, _ => ⟨h0, h1⟩
  | j + 1, hj => by
    obtain ⟨ha, hb⟩ := loop_holds hM hs hc h hbig hx st hst h0 h1 j (by omega)
    obtain ⟨w, hw, e⟩ := hst j (by omega)
    rw [e]
    exact ⟨hb, step_holds hM hs hc h (hbig (k + j) (Nat.le_add_right _ _)) (hbig (k + j + 1) (Nat.le_add_right _ (j + 1))) ha hb hx hw⟩

/-- Rows that the table does not reach yet are the boundary: a block grown by boundary rows still holds the diagonal. -/
theorem grow_holds {x y : ℕ → EReal} {c : Fin 128} {k L L' N : ℕ} (hN : L + L' = N)
    (hc : Shape.Concatenates [⟨2, ![L, 128]⟩, ⟨2, ![L', 128]⟩] ⟨2, ![N, 128]⟩ 0) {a : Blk L} {b : Blk L'}
    (ha : Holds x y c k 0 a) (hb : ∀ j, b j = ⊥) (hk : k ≤ L + 1) :
    Holds x y c k 0 (concatenate ⟨2, ![N, 128]⟩ 0 [⟨⟨2, ![L, 128]⟩, a⟩, ⟨⟨2, ![L', 128]⟩, b⟩] hc : Blk N) := by
  intro r hr hk'
  by_cases hL : r < L
  · refine (concatenate_pair_apply_left _ _ _ hc _ rfl (at2 r hL c) fun d => ?_).trans (ha r hL hk')
    match d with
    | ⟨0, _⟩ => rfl
    | ⟨1, _⟩ => rfl
  · refine (concatenate_pair_apply_right _ _ _ hc _ rfl rfl (at2 (r - L) (by omega) c) (fun d hd => ?_) ?_).trans ?_
    · match d with
      | ⟨0, _⟩ => exact absurd rfl hd
      | ⟨1, _⟩ => rfl
    · show r - L + L = r
      omega
    · rw [hb, T_left x y k (0 + r + 1) (by omega) (by omega)]

theorem slice_apply {L L' o : ℕ} (hs : (⟨2, ![L, 128]⟩ : Shape).Slices ![o, 0] ⟨2, ![L', 128]⟩) (a : Blk L) (c : Fin 128)
    (r : ℕ) (hr : r < L') (h : o + r < L) :
    extractStridedSlice ⟨2, ![L', 128]⟩ ![o, 0] a hs (at2 r hr c) = a (at2 (o + r) h c) :=
  extractStridedSlice_apply _ _ _ _ _ fun b => by
    match b with
    | ⟨0, _⟩ => rfl
    | ⟨1, _⟩ => exact (Nat.zero_add _).symm

theorem slice_holds {x y : ℕ → EReal} {c : Fin 128} {k off L L' o : ℕ} (hL : o + L' ≤ L)
    (hs : (⟨2, ![L, 128]⟩ : Shape).Slices ![o, 0] ⟨2, ![L', 128]⟩) {a : Blk L} (ha : Holds x y c k off a) :
    Holds x y c k (off + o) (extractStridedSlice ⟨2, ![L', 128]⟩ ![o, 0] a hs : Blk L') := by
  intro r hr hk
  rw [slice_apply hs a c r hr (by omega), ha _ _ (by omega), show off + (o + r) + 1 = off + o + r + 1 by omega]

theorem slice_holdsRow {x y : ℕ → EReal} {c : Fin 128} {k off L o : ℕ} (hL : o + 1 ≤ L)
    (hs : (⟨2, ![L, 128]⟩ : Shape).Slices ![o, 0] ⟨2, ![1, 128]⟩) {a : Blk L} (ha : Holds x y c k off a) :
    HoldsRow x y c k (off + o + 1) (extractStridedSlice ⟨2, ![1, 128]⟩ ![o, 0] a hs : Blk 1) := by
  intro hk
  rw [slice_apply hs a c 0 Nat.one_pos (by omega), ha _ _ (by omega), show off + (o + 0) + 1 = off + o + 1 by omega]

theorem slice_xrows {x : ℕ → EReal} {c : Fin 128} {off L L' o : ℕ} (hL : o + L' ≤ L)
    (hs : (⟨2, ![L, 128]⟩ : Shape).Slices ![o, 0] ⟨2, ![L', 128]⟩) {a : Blk L} (ha : XRows x c off a) :
    XRows x c (off + o) (extractStridedSlice ⟨2, ![L', 128]⟩ ![o, 0] a hs : Blk L') := by
  intro r hr
  rw [slice_apply hs a c r hr (by omega), ha, show off + (o + r) = off + o + r by omega]

/-- The boundary row serves as the row above the first one, and as the row above any block whose upper neighbour has ended. -/
theorem big_holdsRow {x y : ℕ → EReal} {c : Fin 128} {k off : ℕ} {v : Blk 1} (hv : ∀ j, v j = ⊥)
    (h : off = 0 ∧ 1 ≤ k ∨ off + 512 < k) : HoldsRow x y c k off v := by
  intro hk
  rcases h with ⟨rfl, h⟩ | h
  · rw [hv, T_zero _ _ _ h]
  · omega

/-- A window loaded from the whole padded reversed `y`, at row `o`. -/
theorem readAt_win {y : ℕ → EReal} {c : Fin 128} {k off L o : ℕ} {v : Memref Cert.KernelIdeal.sig .tc .vmem ⟨2, ![1536, 128]⟩ .f32}
    (hv : v.IsWhole) {x1 : Blk 1536}
    (hy : ∀ p (hp : p < 1536), 511 ≤ p → p < 1023 → x1 (at2 p hp c) = y (1022 - p)) {offs : Fin 2 → ℕ}
    (ho : offs = ![o, 0]) (hk : o + k = off + 1022) (inb) :
    YWin y c k off ((v.view.readAt (Elt Ideal) (Rect.unit (s := ⟨2, ![1536, 128]⟩) offs ![L, 128] inb).toLoadRect
      (hv.unread x1) : Blk L)) := by
  subst ho
  intro r hr h1 h2
  rw [View.readAt_eq_ld, hv.read_unread, show k - (off + r) = 1022 - (o + r) by omega,
    ← hy (o + r) (by omega) (by omega) (by omega)]
  refine congrArg x1 (funext fun a => Fin.ext ?_)
  match a with
  | ⟨0, _⟩ => show o + 1 * r = o + r; omega
  | ⟨1, _⟩ => show 0 + 1 * c.val = c.val; omega

/-- The two steps at which the table's block shrinks to its last `L` rows: the row above the block is read from the old
    block, and for the second step only on the older diagonal. -/
theorem shrink_holds {x y : ℕ → EReal} {c : Fin 128} {k off o M L N : ℕ} (hM : M + 1 = L) (hN : o + 1 + L ≤ N) (hs hc hcast)
    (hr : (⟨2, ![N, 128]⟩ : Shape).Slices ![o, 0] ⟨2, ![1, 128]⟩)
    (hb : (⟨2, ![N, 128]⟩ : Shape).Slices ![o + 1, 0] ⟨2, ![L, 128]⟩) (hk : off + (o + 1) + 512 = k + 1) {big : Blk 1}
    (hbig : ∀ j, big j = ⊥) {xs : Blk L} (hx : XRows x c (off + (o + 1)) xs) {w w' : Blk L}
    (hw : YWin y c k (off + (o + 1)) w) (hw' : YWin y c (k + 1) (off + (o + 1)) w') {a b : Blk N}
    (H : Holds x y c k off a ∧ Holds x y c (k + 1) off b) :
    let r0 : Blk 1 := extractStridedSlice ⟨2, ![1, 128]⟩ ![o, 0] a hr
    let r1 : Blk 1 := extractStridedSlice ⟨2, ![1, 128]⟩ ![o, 0] b hr
    let a' : Blk L := extractStridedSlice ⟨2, ![L, 128]⟩ ![o + 1, 0] a hb
    let b' : Blk L := extractStridedSlice ⟨2, ![L, 128]⟩ ![o + 1, 0] b hb
    let s : Blk L := soft L (down M L hs hc r0 a') (down M L hs hc r1 b') b' (dists L hcast xs w)
    Holds x y c (k + 2) (off + (o + 1)) s ∧
      Holds x y c (k + 3) (off + (o + 1)) (soft L (down M L hs hc r1 b') (down M L hs hc big s) s (dists L hcast xs w')) := by
  intro r0 r1 a' b' s
  have H1 : HoldsRow x y c (k + 1) (off + (o + 1)) r1 := slice_holdsRow (by omega) hr H.2
  have Hb : Holds x y c (k + 1) (off + (o + 1)) b' := slice_holds (by omega) hb H.2
  have Hs : Holds x y c (k + 2) (off + (o + 1)) s :=
    step_holds hM hs hc hcast (slice_holdsRow (by omega) hr H.1) H1 (slice_holds (by omega) hb H.1) Hb hx hw
  exact ⟨Hs, step_holds hM hs hc hcast H1 (big_holdsRow hbig (.inr (by omega))) Hb Hs hx hw'⟩

end Sdtw

end
-- ==== Proof.Sdtw.Loops.lean ====
module

public import proofs.«01_k».proof.Proof.Sdtw.Step
public import proofs.«01_k».proof.Proof.Gen.KernelIdeal.Frame

@[expose] public section

set_option maxRecDepth 16384

open Idealize Idealize.ShloMosaic Idealize.ShloMosaic.ValueIdx Idealize.ShloMosaic.TcCoe
open Cert.KernelIdeal Cert.KernelIdeal.Gen

/-!
The seven counted loops of the kernel, each read as a run of `step_holds`: a loop that enters with two diagonals of the
scaled table leaves with the two diagonals it has reached. The first four work on the leading rows of the table, the last
three on the trailing ones.
-/

noncomputable section

namespace Sdtw

variable {x y : ℕ → EReal} {c : Fin 128} (d : Dev nD) (i : grid0.Coords)
  {arg1 : Memref sig .tc .vmem S512x128 .f32} (harg1 : arg1.IsWhole)
  {arg2 : Memref sig .tc .vmem S1536x128 .f32} (harg2 : arg2.IsWhole)
  {arg3 : Memref sig .tc .vmem S1x1x128 .f32} (harg3 : arg3.IsWhole) {x1 : Blk 1536}

/-- The padded reversed `y`: row `p` holds `y (1022 - p)` where that is a point of the sequence. -/
def YPad (y : ℕ → EReal) (c : Fin 128) (x1 : Blk 1536) : Prop :=
  ∀ p (hp : p < 1536), 511 ≤ p → p < 1023 → x1 (at2 p hp c) = y (1022 - p)

theorem t1_holds {v0 : Blk 512} (hy : YPad y c x1) (hbig : ∀ j, k0_pay4 (F := Ideal) v0 j = ⊥)
    (hx : XRows x c 0 (k0_pay5 (F := Ideal) v0)) {init : Blk 64 × Blk 64}
    (h0 : Holds x y c 1 0 init.1) (h1 : Holds x y c 2 0 init.2) {N : ℕ} (hN : N = 63) :
    let s := st_k0_t1 (F := Ideal) Variants.none d none i arg1 harg1 arg2 harg2 arg3 harg3 v0 (harg2.unread x1) init N
    Holds x y c 64 0 s.1 ∧ Holds x y c 65 0 s.2 := by
  have hn : k0_t1_loop.trips = 63 := by decide +kernel
  subst hN
  refine loop_holds (n := 63) (k := 1) (M := 63) (L := 64) rfl slices_S64x128_o0_0_S63x128
    concatenates_S1x128_S63x128_S64x128_d0 shapeCasts_S64x128_S64x128 (fun k' h => big_holdsRow hbig (.inl ⟨rfl, h⟩)) hx
    (fun j => st_k0_t1 (F := Ideal) Variants.none d none i arg1 harg1 arg2 harg2 arg3 harg3 v0 (harg2.unread x1) init j)
    (fun j hj => ⟨_, readAt_win harg2 hy (k0_off1_eq ⟨j, by omega⟩) (by show 1021 - j + (1 + j) = _; omega)
      (k0_off1_inb ⟨j, by omega⟩), (st_k0_t1_succ _ _ _ _ _ _ _ _ _ _ _ _ _ ⟨j, by omega⟩).trans ?_⟩) h0 h1 63 le_rfl
  unfold tripR_k0_t1 trip_k0_t1
  rfl

theorem t2_holds (v3 v7 : Blk 512) {v8 : Blk 1} {v40 : Blk 128} (v41 v42 : Blk 128) (w w' : BitVec 32) (hy : YPad y c x1)
    (hbig : ∀ j, v8 j = ⊥) (hx : XRows x c 0 v40) {init : Blk 128 × Blk 128}
    (h0 : Holds x y c 64 0 init.1) (h1 : Holds x y c 65 0 init.2) {N : ℕ} (hN : N = 64) :
    let s := st_k0_t2 (F := Ideal) Variants.none d none i arg1 harg1 arg2 harg2 arg3 harg3 v3 v7 v8 v40 v41 v42 w w'
      (harg2.unread x1) init N
    Holds x y c 128 0 s.1 ∧ Holds x y c 129 0 s.2 := by
  have hn : k0_t2_loop.trips = 64 := by decide +kernel
  subst hN
  refine loop_holds (n := 64) (k := 64) (M := 127) (L := 128) rfl slices_S128x128_o0_0_S127x128
    concatenates_S1x128_S127x128_S128x128_d0 shapeCasts_S128x128_S128x128
    (fun k' h => big_holdsRow hbig (.inl ⟨rfl, by omega⟩)) hx
    (fun j => st_k0_t2 (F := Ideal) Variants.none d none i arg1 harg1 arg2 harg2 arg3 harg3 v3 v7 v8 v40 v41 v42 w w'
      (harg2.unread x1) init j)
    (fun j hj => ⟨_, readAt_win harg2 hy (k0_off2_eq ⟨j, by omega⟩) (by show 958 - j + (64 + j) = _; omega)
      (k0_off2_inb ⟨j, by omega⟩), (st_k0_t2_succ (k := ⟨j, by omega⟩) ..).trans ?_⟩) h0 h1 64 le_rfl
  unfold tripR_k0_t2 trip_k0_t2
  rfl

theorem t3_holds {v3 : Blk 512} (v7 : Blk 512) {v8 : Blk 1} (v40 v41 v42 : Blk 128) (w w' : BitVec 32) (hy : YPad y c x1)
    (hbig : ∀ j, v8 j = ⊥) (hx : XRows x c 0 v3) {init : Blk 256 × Blk 256}
    (h0 : Holds x y c 128 0 init.1) (h1 : Holds x y c 129 0 init.2) {N : ℕ} (hN : N = 128) :
    let s := st_k0_t3 (F := Ideal) Variants.none d none i arg1 harg1 arg2 harg2 arg3 harg3 v3 v7 v8 v40 v41 v42 w w'
      (harg2.unread x1) init N
    Holds x y c 256 0 s.1 ∧ Holds x y c 257 0 s.2 := by
  have hn : k0_t3_loop.trips = 128 := by decide +kernel
  subst hN
  refine loop_holds (n := 128) (k := 128) (M := 255) (L := 256) rfl slices_S256x128_o0_0_S255x128
    concatenates_S1x128_S255x128_S256x128_d0 shapeCasts_S256x128_S256x128
    (fun k' h => big_holdsRow hbig (.inl ⟨rfl, by omega⟩))
    (slice_xrows (off := 0) (by decide) slices_S512x128_o0_0_S256x128 hx)
    (fun j => st_k0_t3 (F := Ideal) Variants.none d none i arg1 harg1 arg2 harg2 arg3 harg3 v3 v7 v8 v40 v41 v42 w w'
      (harg2.unread x1) init j)
    (fun j hj => ⟨_, readAt_win harg2 hy (k0_off3_eq ⟨j, by omega⟩) (by show 894 - j + (128 + j) = _; omega)
      (k0_off3_inb ⟨j, by omega⟩), (st_k0_t3_succ (k := ⟨j, by omega⟩) ..).trans ?_⟩) h0 h1 128 le_rfl
  unfold tripR_k0_t3 trip_k0_t3
  rfl

theorem t4_holds {v3 : Blk 512} (v7 : Blk 512) {v8 : Blk 1} (v40 v41 v42 : Blk 128) (w w' : BitVec 32) (hy : YPad y c x1)
    (hbig : ∀ j, v8 j = ⊥) (hx : XRows x c 0 v3) {init : Blk 512 × Blk 512}
    (h0 : Holds x y c 256 0 init.1) (h1 : Holds x y c 257 0 init.2) {N : ℕ} (hN : N = 511) :
    let s := st_k0_t4 (F := Ideal) Variants.none d none i arg1 harg1 arg2 harg2 arg3 harg3 v3 v7 v8 v40 v41 v42 w w'
      (harg2.unread x1) init N
    Holds x y c 767 0 s.1 ∧ Holds x y c 768 0 s.2 := by
  have hn : k0_t4_loop.trips = 511 := by decide +kernel
  subst hN
  refine loop_holds (n := 511) (k := 256) (M := 511) (L := 512) rfl slices_S512x128_o0_0_S511x128
    concatenates_S1x128_S511x128_S512x128_d0 shapeCasts_S512x128_S512x128
    (fun k' h => big_holdsRow hbig (.inl ⟨rfl, by omega⟩)) hx
    (fun j => st_k0_t4 (F := Ideal) Variants.none d none i arg1 harg1 arg2 harg2 arg3 harg3 v3 v7 v8 v40 v41 v42 w w'
      (harg2.unread x1) init j)
    (fun j hj => ⟨_, readAt_win harg2 hy (k0_off4_eq ⟨j, by omega⟩) (by show 766 - j + (256 + j) = _; omega)
      (k0_off4_inb ⟨j, by omega⟩), (st_k0_t4_succ (k := ⟨j, by omega⟩) ..).trans ?_⟩) h0 h1 511 le_rfl
  unfold tripR_k0_t4 trip_k0_t4
  rfl

theorem t5_holds (v3 : Blk 512) {v8 : Blk 1} {v56 : Blk 256} (v58 : Blk 1) (v85 v86 : Blk 256) (hy : YPad y c x1)
    (hbig : ∀ j, v8 j = ⊥) (hx : XRows x c 256 v56) {init : Blk 256 × Blk 256}
    (h0 : Holds x y c 769 256 init.1) (h1 : Holds x y c 770 256 init.2) {N : ℕ} (hN : N = 126) :
    let s := st_k0_t5 (F := Ideal) Variants.none d none i arg1 harg1 arg2 harg2 arg3 harg3 v3 v8 v56 v58 v85 v86
      (harg2.unread x1) init N
    Holds x y c 895 256 s.1 ∧ Holds x y c 896 256 s.2 := by
  have hn : k0_t5_loop.trips = 126 := by decide +kernel
  subst hN
  refine loop_holds (n := 126) (k := 769) (M := 255) (L := 256) rfl slices_S256x128_o0_0_S255x128
    concatenates_S1x128_S255x128_S256x128_d0 shapeCasts_S256x128_S256x128
    (fun k' h => big_holdsRow hbig (.inr (by omega))) hx
    (fun j => st_k0_t5 (F := Ideal) Variants.none d none i arg1 harg1 arg2 harg2 arg3 harg3 v3 v8 v56 v58 v85 v86
      (harg2.unread x1) init j)
    (fun j hj => ⟨_, readAt_win harg2 hy (k0_off5_eq ⟨j, by omega⟩) (by show 509 - j + (769 + j) = _; omega)
      (k0_off5_inb ⟨j, by omega⟩), (st_k0_t5_succ (k := ⟨j, by omega⟩) ..).trans ?_⟩) h0 h1 126 le_rfl
  unfold tripR_k0_t5 trip_k0_t5
  rfl

theorem t6_holds (v3 : Blk 512) {v8 : Blk 1} (v113 : Blk 256) {v114 : Blk 128} (v116 : Blk 1) (v124 v130 v135 v137 : Blk 128)
    (hy : YPad y c x1) (hbig : ∀ j, v8 j = ⊥) (hx : XRows x c 384 v114) {init : Blk 128 × Blk 128}
    (h0 : Holds x y c 897 384 init.1) (h1 : Holds x y c 898 384 init.2) {N : ℕ} (hN : N = 62) :
    let s := st_k0_t6 (F := Ideal) Variants.none d none i arg1 harg1 arg2 harg2 arg3 harg3 v3 v8 v113 v114 v116 v124 v130
      v135 v137 (harg2.unread x1) init N
    Holds x y c 959 384 s.1 ∧ Holds x y c 960 384 s.2 := by
  have hn : k0_t6_loop.trips = 62 := by decide +kernel
  subst hN
  refine loop_holds (n := 62) (k := 897) (M := 127) (L := 128) rfl slices_S128x128_o0_0_S127x128
    concatenates_S1x128_S127x128_S128x128_d0 shapeCasts_S128x128_S128x128
    (fun k' h => big_holdsRow hbig (.inr (by omega))) hx
    (fun j => st_k0_t6 (F := Ideal) Variants.none d none i arg1 harg1 arg2 harg2 arg3 harg3 v3 v8 v113 v114 v116 v124 v130
      v135 v137 (harg2.unread x1) init j)
    (fun j hj => ⟨_, readAt_win harg2 hy (k0_off6_eq ⟨j, by omega⟩) (by show 509 - j + (897 + j) = _; omega)
      (k0_off6_inb ⟨j, by omega⟩), (st_k0_t6_succ (k := ⟨j, by omega⟩) ..).trans ?_⟩) h0 h1 62 le_rfl
  unfold tripR_k0_t6 trip_k0_t6
  rfl

theorem t7_holds {v8 : Blk 1} (v171 : Blk 128) {v172 : Blk 64} (v174 : Blk 1) (v176 v182 v184 : Blk 64) (v185 : Blk 63)
    (hy : YPad y c x1) (hbig : ∀ j, v8 j = ⊥) (hx : XRows x c 448 v172) {init : Blk 64 × Blk 64}
    (h0 : Holds x y c 961 448 init.1) (h1 : Holds x y c 962 448 init.2) {N : ℕ} (hN : N = 62) :
    let s := st_k0_t7 (F := Ideal) Variants.none d none i arg1 harg1 arg2 harg2 arg3 harg3 v8 v171 v172 v174 v176 v182
      v184 v185 (harg2.unread x1) init N
    Holds x y c 1023 448 s.1 ∧ Holds x y c 1024 448 s.2 := by
  have hn : k0_t7_loop.trips = 62 := by decide +kernel
  subst hN
  refine loop_holds (n := 62) (k := 961) (M := 63) (L := 64) rfl slices_S64x128_o0_0_S63x128
    concatenates_S1x128_S63x128_S64x128_d0 shapeCasts_S64x128_S64x128
    (fun k' h => big_holdsRow hbig (.inr (by omega))) hx
    (fun j => st_k0_t7 (F := Ideal) Variants.none d none i arg1 harg1 arg2 harg2 arg3 harg3 v8 v171 v172 v174 v176 v182
      v184 v185 (harg2.unread x1) init j)
    (fun j hj => ⟨_, readAt_win harg2 hy (k0_off7_eq ⟨j, by omega⟩) (by show 509 - j + (961 + j) = _; omega)
      (k0_off7_inb ⟨j, by omega⟩), (st_k0_t7_succ (k := ⟨j, by omega⟩) ..).trans ?_⟩) h0 h1 62 le_rfl
  unfold tripR_k0_t7 trip_k0_t7
  rfl

end Sdtw

end
-- ==== Proof.Sdtw.Body.lean ====
module

public import proofs.«01_k».proof.Proof.Sdtw.Loops

@[expose] public section

set_option maxRecDepth 16384

open Idealize Idealize.ShloMosaic Idealize.ShloMosaic.ValueIdx Idealize.ShloMosaic.TcCoe
open Cert.KernelIdeal Cert.KernelIdeal.Gen

/-!
One grid point of the kernel: the states after its seven loops, one definition each, and the diagonals of the scaled table
that they hold.
-/

noncomputable section

namespace Sdtw

variable (d : Dev nD) (i : grid0.Coords)
  {arg1 : Memref sig .tc .vmem S512x128 .f32} (harg1 : arg1.IsWhole)
  {arg2 : Memref sig .tc .vmem S1536x128 .f32} (harg2 : arg2.IsWhole)
  {arg3 : Memref sig .tc .vmem S1x1x128 .f32} (harg3 : arg3.IsWhole) (x0 : Blk 512) (x1 : Blk 1536)

/-- The block of `x` as the kernel loads it. -/
def ldx : Blk 512 :=
  arg1.view.readAt (Elt Ideal) (Rect.unit (s := S512x128) ![0, 0] S512x128.size inb_S512x128_S512x128_0_0).toLoadRect
    (harg1.unread x0)

/-- The window of the padded `y` of `L` rows at row `o`. -/
def ldy (L o : ℕ) (inb : ∀ a, (![o, 0] : Fin 2 → ℕ) a + (![L, 128] : Fin 2 → ℕ) a ≤ S1536x128.size a) : Blk L :=
  arg2.view.readAt (Elt Ideal) (Rect.unit (s := S1536x128) ![o, 0] ![L, 128] inb).toLoadRect (harg2.unread x1)

/-- The two last diagonals after the loop over the first 64 rows, -/
def B1 : Blk 64 × Blk 64 :=
  st_k0_t1 (F := Ideal) Variants.none d none i arg1 harg1 arg2 harg2 arg3 harg3 (ldx harg1 x0) (harg2.unread x1)
    (k0_pay6 (ldx harg1 x0), k0_pay7 (ldx harg1 x0) (ldy harg2 x1 64 1022 inb_S1536x128_S64x128_1022_0)) k0_t1_loop.trips

/-- over the first 128 rows, -/
def B2 : Blk 128 × Blk 128 :=
  let v0 := ldx harg1 x0
  let s := B1 d i harg1 harg2 harg3 x0 x1
  st_k0_t2 (F := Ideal) Variants.none d none i arg1 harg1 arg2 harg2 arg3 harg3 (k0_pay2 v0) (k0_pay3 v0) (k0_pay4 v0)
    (k0_pay9 v0) (k0_pay10 v0 s.1) (k0_pay11 v0 s.2) 66#32 64#32 (harg2.unread x1) (k0_pay10 v0 s.1, k0_pay11 v0 s.2)
    k0_t2_loop.trips

/-- over the first 256 rows, -/
def B3 : Blk 256 × Blk 256 :=
  let v0 := ldx harg1 x0
  let s := B1 d i harg1 harg2 harg3 x0 x1
  let s' := B2 d i harg1 harg2 harg3 x0 x1
  st_k0_t3 (F := Ideal) Variants.none d none i arg1 harg1 arg2 harg2 arg3 harg3 (k0_pay2 v0) (k0_pay3 v0) (k0_pay4 v0)
    (k0_pay9 v0) (k0_pay10 v0 s.1) (k0_pay11 v0 s.2) 66#32 64#32 (harg2.unread x1)
    (k0_pay14 (k0_pay3 v0) s'.1, k0_pay15 (k0_pay3 v0) s'.2) k0_t3_loop.trips

/-- over all 512 rows, -/
def B4 : Blk 512 × Blk 512 :=
  let v0 := ldx harg1 x0
  let s := B1 d i harg1 harg2 harg3 x0 x1
  let s' := B3 d i harg1 harg2 harg3 x0 x1
  st_k0_t4 (F := Ideal) Variants.none d none i arg1 harg1 arg2 harg2 arg3 harg3 (k0_pay2 v0) (k0_pay3 v0) (k0_pay4 v0)
    (k0_pay9 v0) (k0_pay10 v0 s.1) (k0_pay11 v0 s.2) 66#32 64#32 (harg2.unread x1)
    (k0_pay18 (k0_pay3 v0) s'.1, k0_pay19 (k0_pay3 v0) s'.2) k0_t4_loop.trips

/-- the first diagonal of the last 256 rows, -/
def C5 : Blk 256 :=
  k0_pay23 (k0_pay2 (ldx harg1 x0)) (B4 d i harg1 harg2 harg3 x0 x1).1 (B4 d i harg1 harg2 harg3 x0 x1).2
    (ldy harg2 x1 256 511 inb_S1536x128_S256x128_511_0)

/-- over the last 256 rows, -/
def B5 : Blk 256 × Blk 256 :=
  let v3 := k0_pay2 (ldx harg1 x0)
  let v8 := k0_pay4 (ldx harg1 x0)
  let b := (B4 d i harg1 harg2 harg3 x0 x1).2
  let v85 := C5 d i harg1 harg2 harg3 x0 x1
  st_k0_t5 (F := Ideal) Variants.none d none i arg1 harg1 arg2 harg2 arg3 harg3 v3 v8 (k0_pay21 v3) (k0_pay22 b) v85
    (k0_pay24 b) (harg2.unread x1)
    (v85, k0_pay25 v8 (k0_pay21 v3) (k0_pay22 b) v85 (k0_pay24 b) (ldy harg2 x1 256 510 inb_S1536x128_S256x128_510_0))
    k0_t5_loop.trips

/-- over the last 128 rows, -/
def B6 : Blk 128 × Blk 128 :=
  let v3 := k0_pay2 (ldx harg1 x0)
  let v8 := k0_pay4 (ldx harg1 x0)
  let a := (B5 d i harg1 harg2 harg3 x0 x1).1
  let b := (B5 d i harg1 harg2 harg3 x0 x1).2
  let e := k0_pay30 v3 (ldy harg2 x1 128 511 inb_S1536x128_S128x128_511_0)
  st_k0_t6 (F := Ideal) Variants.none d none i arg1 harg1 arg2 harg2 arg3 harg3 v3 v8 b (k0_pay27 v3) (k0_pay28 b) e
    (k0_pay33 a b) (k0_pay34 a b) (k0_pay35 a b) (harg2.unread x1)
    (k0_pay36 e (k0_pay33 a b) (k0_pay34 a b) (k0_pay35 a b),
      k0_pay37 v8 b (k0_pay27 v3) (k0_pay28 b) e (k0_pay33 a b) (k0_pay34 a b) (k0_pay35 a b)
        (ldy harg2 x1 128 510 inb_S1536x128_S128x128_510_0)) k0_t6_loop.trips

/-- and over the last 64 rows. -/
def B7 : Blk 64 × Blk 64 :=
  let v3 := k0_pay2 (ldx harg1 x0)
  let v8 := k0_pay4 (ldx harg1 x0)
  let a := (B6 d i harg1 harg2 harg3 x0 x1).1
  let b := (B6 d i harg1 harg2 harg3 x0 x1).2
  let e := k0_pay42 v3 (ldy harg2 x1 64 511 inb_S1536x128_S64x128_511_0)
  st_k0_t7 (F := Ideal) Variants.none d none i arg1 harg1 arg2 harg2 arg3 harg3 v8 b (k0_pay39 v3) (k0_pay40 b)
    (k0_pay41 b) e (k0_pay43 a) (k0_pay44 b) (harg2.unread x1)
    (k0_pay45 (k0_pay40 b) (k0_pay41 b) e (k0_pay43 a) (k0_pay44 b),
      k0_pay46 v8 b (k0_pay39 v3) (k0_pay40 b) (k0_pay41 b) e (k0_pay43 a) (k0_pay44 b)
        (ldy harg2 x1 64 510 inb_S1536x128_S64x128_510_0)) k0_t7_loop.trips

/-- What the run of the body stores: the last row of the last diagonal, unscaled. -/
theorem pieces_eq : (kernelRun0_A (F := Ideal) d i arg1 harg1 arg2 harg2 arg3 harg3 x0 x1).1
    = [⟨Rect.unit (s := S1x1x128) ![0, 0, 0] S1x1x128.size inb_S1x1x128_S1x1x128_0_0_0,
        k0_pay1 (k0_pay48 (B7 d i harg1 harg2 harg3 x0 x1).2)⟩] := by
  unfold kernelRun0_A
  dsimp only
  sl_unfold_words
  rfl

end Sdtw

end
-- ==== Proof.Sdtw.BodyValue.lean ====
module

public import proofs.«01_k».proof.Proof.Sdtw.Body
public import Idealize.ShloMosaic.PureOps.Ideal.Laws

@[expose] public section

set_option maxRecDepth 16384

open Idealize Idealize.ShloMosaic Idealize.ShloMosaic.ValueIdx Idealize.ShloMosaic.TcCoe
open Cert.KernelIdeal Cert.KernelIdeal.Gen

/-!
The value of one grid point: the diagonals that each state of `Body` holds, up to the last entry of the table.
-/

noncomputable section

namespace Sdtw

/-! ### The payloads between the loops -/

theorem big_apply (v0 : Blk 512) (j) : k0_pay3 (F := Ideal) v0 j = ⊥ := by
  show k0_pay2 (F := Ideal) v0 j * Ideal.ofBits .f32 0x00000000#32 + (⊥ : EReal) = ⊥
  exact EReal.add_bot _

theorem bigRow_apply (v0 : Blk 512) (j) : k0_pay4 (F := Ideal) v0 j = ⊥ := big_apply v0 _

theorem xrows_all {x : ℕ → EReal} {c : Fin 128} {v0 : Blk 512} (h : ∀ r (hr : r < 512), v0 (at2 r hr c) = x r) :
    XRows x c 0 (k0_pay2 (F := Ideal) v0) := by
  intro r hr
  rw [Nat.zero_add, ← h r hr]
  show shapeCast S512x128 v0 _ _ * ((sc : ℝ) : EReal) = _
  rw [shapeCast_self]

/-- The first step, from the corner of the table. -/
theorem first_holds {x y : ℕ → EReal} {c : Fin 128} {v0 : Blk 512} {w : Blk 64}
    (h : ∀ r (hr : r < 512), v0 (at2 r hr c) = x r) (hw : YWin y c 0 0 w) :
    Holds x y c 1 0 (k0_pay6 (F := Ideal) v0) ∧ Holds x y c 2 0 (k0_pay7 (F := Ideal) v0 w) := by
  have hb : ∀ k, k ≤ 1 → Holds x y c k 0 (k0_pay6 (F := Ideal) v0) := fun k hk r hr _ => by
    rw [T_left x y k (0 + r + 1) (by omega) (by omega)]
    exact big_apply v0 _
  have h0 : HoldsRow x y c 0 0 (mulf (k0_pay4 (F := Ideal) v0) (broadcast S1x128 (Scalar.ofBits .f32 0x00000000#32))) :=
    fun _ => by
      rw [T_corner]
      show k0_pay4 (F := Ideal) v0 _ * Ideal.ofBits .f32 0x00000000#32 = 0
      rw [Ideal.ofBits_zero_f32, mul_zero]
  exact ⟨hb 1 le_rfl, step_holds (k := 0) (M := 63) (L := 64) rfl slices_S64x128_o0_0_S63x128
    concatenates_S1x128_S63x128_S64x128_d0 shapeCasts_S64x128_S64x128 h0
    (big_holdsRow (bigRow_apply v0) (.inl ⟨rfl, le_rfl⟩)) (hb 0 (by omega)) (hb 1 le_rfl)
    (slice_xrows (off := 0) (by decide) slices_S512x128_o0_0_S64x128 (xrows_all h)) hw⟩

section

variable {x y : ℕ → EReal} {c : Fin 128} (d : Dev nD) (i : grid0.Coords)
  {arg1 : Memref sig .tc .vmem S512x128 .f32} (harg1 : arg1.IsWhole)
  {arg2 : Memref sig .tc .vmem S1536x128 .f32} (harg2 : arg2.IsWhole)
  {arg3 : Memref sig .tc .vmem S1x1x128 .f32} (harg3 : arg3.IsWhole) {x0 : Blk 512} {x1 : Blk 1536}

theorem ldx_eq : ldx harg1 x0 = x0 := by
  unfold ldx
  rw [View.readAt_eq_ld, harg1.read_unread]
  exact View.ld_unit_zero (by funext a; match a with | ⟨0, _⟩ => rfl | ⟨1, _⟩ => rfl) _ _

variable (h : ∀ r (hr : r < 512), x0 (at2 r hr c) = x r) (hy : YPad y c x1)
include h hy

theorem B1_holds : Holds x y c 64 0 (B1 d i harg1 harg2 harg3 x0 x1).1 ∧ Holds x y c 65 0 (B1 d i harg1 harg2 harg3 x0 x1).2 := by
  have H := first_holds h (readAt_win (o := 1022) (k := 0) (off := 0) harg2 hy rfl rfl inb_S1536x128_S64x128_1022_0)
  unfold B1
  rw [ldx_eq]
  exact t1_holds d i harg1 harg2 harg3 hy (bigRow_apply x0)
    (slice_xrows (off := 0) (by decide) slices_S512x128_o0_0_S64x128 (xrows_all h)) H.1 H.2 (by decide +kernel)

theorem B2_holds : Holds x y c 128 0 (B2 d i harg1 harg2 harg3 x0 x1).1 ∧ Holds x y c 129 0 (B2 d i harg1 harg2 harg3 x0 x1).2 := by
  have H := B1_holds d i harg1 harg2 harg3 h hy
  unfold B2
  rw [ldx_eq]
  exact t2_holds d i harg1 harg2 harg3 _ _ _ _ _ _ hy (bigRow_apply x0)
    (slice_xrows (off := 0) (by decide) slices_S512x128_o0_0_S128x128 (xrows_all h))
    (grow_holds rfl concatenates_S64x128_S64x128_S128x128_d0 H.1 (fun _ => big_apply x0 _) (by omega))
    (grow_holds rfl concatenates_S64x128_S64x128_S128x128_d0 H.2 (fun _ => big_apply x0 _) (by omega)) (by decide +kernel)

theorem B3_holds : Holds x y c 256 0 (B3 d i harg1 harg2 harg3 x0 x1).1 ∧ Holds x y c 257 0 (B3 d i harg1 harg2 harg3 x0 x1).2 := by
  have H := B2_holds d i harg1 harg2 harg3 h hy
  unfold B3
  rw [ldx_eq]
  exact t3_holds d i harg1 harg2 harg3 _ _ _ _ _ _ hy (bigRow_apply x0) (xrows_all h)
    (grow_holds rfl concatenates_S128x128_S128x128_S256x128_d0 H.1 (fun _ => big_apply x0 _) (by omega))
    (grow_holds rfl concatenates_S128x128_S128x128_S256x128_d0 H.2 (fun _ => big_apply x0 _) (by omega)) (by decide +kernel)

theorem B4_holds : Holds x y c 767 0 (B4 d i harg1 harg2 harg3 x0 x1).1 ∧ Holds x y c 768 0 (B4 d i harg1 harg2 harg3 x0 x1).2 := by
  have H := B3_holds d i harg1 harg2 harg3 h hy
  unfold B4
  rw [ldx_eq]
  exact t4_holds d i harg1 harg2 harg3 _ _ _ _ _ _ hy (bigRow_apply x0) (xrows_all h)
    (grow_holds rfl concatenates_S256x128_S256x128_S512x128_d0 H.1 (fun _ => big_apply x0 _) (by omega))
    (grow_holds rfl concatenates_S256x128_S256x128_S512x128_d0 H.2 (fun _ => big_apply x0 _) (by omega)) (by decide +kernel)

theorem B5_holds : Holds x y c 895 256 (B5 d i harg1 harg2 harg3 x0 x1).1 ∧ Holds x y c 896 256 (B5 d i harg1 harg2 harg3 x0 x1).2 := by
  have hx : XRows x c 256 (k0_pay21 (F := Ideal) (k0_pay2 x0)) :=
    slice_xrows (off := 0) (by decide) slices_S512x128_o256_0_S256x128 (xrows_all h)
  have H := shrink_holds (k := 767) (off := 0) (o := 255) (M := 255) (L := 256) (N := 512) rfl (by omega)
    slices_S256x128_o0_0_S255x128 concatenates_S1x128_S255x128_S256x128_d0 shapeCasts_S256x128_S256x128
    slices_S512x128_o255_0_S1x128 slices_S512x128_o256_0_S256x128 rfl (bigRow_apply x0) hx
    (readAt_win (o := 511) (k := 767) (off := 256) harg2 hy rfl rfl inb_S1536x128_S256x128_511_0)
    (readAt_win (o := 510) (k := 768) (off := 256) harg2 hy rfl rfl inb_S1536x128_S256x128_510_0) (B4_holds d i harg1 harg2 harg3 h hy)
  unfold B5 C5
  rw [ldx_eq]
  exact t5_holds d i harg1 harg2 harg3 _ _ _ _ hy (bigRow_apply x0) hx H.1 H.2 (by decide +kernel)

theorem B6_holds : Holds x y c 959 384 (B6 d i harg1 harg2 harg3 x0 x1).1 ∧ Holds x y c 960 384 (B6 d i harg1 harg2 harg3 x0 x1).2 := by
  have hx : XRows x c 384 (k0_pay27 (F := Ideal) (k0_pay2 x0)) :=
    slice_xrows (off := 0) (by decide) slices_S512x128_o384_0_S128x128 (xrows_all h)
  have H := shrink_holds (k := 895) (off := 256) (o := 127) (M := 127) (L := 128) (N := 256) rfl (by omega)
    slices_S128x128_o0_0_S127x128 concatenates_S1x128_S127x128_S128x128_d0 shapeCasts_S128x128_S128x128
    slices_S256x128_o127_0_S1x128 slices_S256x128_o128_0_S128x128 rfl (bigRow_apply x0) hx
    (readAt_win (o := 511) (k := 895) (off := 384) harg2 hy rfl rfl inb_S1536x128_S128x128_511_0)
    (readAt_win (o := 510) (k := 896) (off := 384) harg2 hy rfl rfl inb_S1536x128_S128x128_510_0) (B5_holds d i harg1 harg2 harg3 h hy)
  unfold B6
  rw [ldx_eq]
  exact t6_holds d i harg1 harg2 harg3 _ _ _ _ _ _ _ hy (bigRow_apply x0) hx H.1 H.2 (by decide +kernel)

theorem B7_holds : Holds x y c 1024 448 (B7 d i harg1 harg2 harg3 x0 x1).2 := by
  have hx : XRows x c 448 (k0_pay39 (F := Ideal) (k0_pay2 x0)) :=
    slice_xrows (off := 0) (by decide) slices_S512x128_o448_0_S64x128 (xrows_all h)
  have H := shrink_holds (k := 959) (off := 384) (o := 63) (M := 63) (L := 64) (N := 128) rfl (by omega)
    slices_S64x128_o0_0_S63x128 concatenates_S1x128_S63x128_S64x128_d0 shapeCasts_S64x128_S64x128
    slices_S128x128_o63_0_S1x128 slices_S128x128_o64_0_S64x128 rfl (bigRow_apply x0) hx
    (readAt_win (o := 511) (k := 959) (off := 448) harg2 hy rfl rfl inb_S1536x128_S64x128_511_0)
    (readAt_win (o := 510) (k := 960) (off := 448) harg2 hy rfl rfl inb_S1536x128_S64x128_510_0) (B6_holds d i harg1 harg2 harg3 h hy)
  unfold B7
  rw [ldx_eq]
  exact (t7_holds d i harg1 harg2 harg3 _ _ _ _ _ _ hy (bigRow_apply x0) hx H.1 H.2 (by decide +kernel)).2

/-- Lane `c` of the stored row is the last entry of the table. -/
theorem stored_lane : k0_pay48 (F := Ideal) (B7 d i harg1 harg2 harg3 x0 x1).2 (ix1 c) = R x y 1024 512 := by
  have H := B7_holds d i harg1 harg2 harg3 h hy
  rw [← T_unscale]
  have e : shapeCast S128 (extractStridedSlice S1x128 ![63, 0] (B7 d i harg1 harg2 harg3 x0 x1).2
      slices_S64x128_o63_0_S1x128) shapeCasts_S1x128_S128 (ix1 c) = T x y 1024 512 := by
    refine (shapeCast_apply _ _ (ix1 c) (at2 0 Nat.one_pos c) ?_).trans ?_
    · rw [Shape.rowMajor_val_two, Shape.rowMajor_val_one]
      show 0 * 128 + c.val = c.val
      omega
    · rw [slice_apply _ _ c 0 Nat.one_pos (by omega : 63 + 0 < 64)]
      exact H 63 (by omega) (by omega)
  rw [← e]
  rfl

end

end Sdtw

end
-- ==== Proof.Sdtw.Host.lean ====
module

public import proofs.«01_k».proof.Proof.Sdtw.BodyValue
public import Idealize.ShloMosaic.Lib.Routing.OpsSet

@[expose] public section

set_option maxRecDepth 16384

open Idealize Idealize.ShloMosaic Idealize.ShloMosaic.ValueIdx Idealize.ShloMosaic.TcCoe
open Cert.KernelIdeal Cert.KernelIdeal.Gen

/-!
The two arrays the host passes to the kernel: the first sequence transposed, and the second one reversed, transposed and
set into a taller array of zeros.
-/

noncomputable section

namespace Sdtw

/-- Sequence `b` of a batch of 256, at a natural position. -/
def seq (a : FVec Ideal ⟨2, ![256, 512]⟩ .f32) (b : Fin 256) (k : ℕ) : EReal :=
  if h : k < 512 then a (ix2 b ⟨k, h⟩) else 0

theorem seq_of_lt (a : FVec Ideal ⟨2, ![256, 512]⟩ .f32) (b : Fin 256) {k : ℕ} (h : k < 512) : seq a b k = a (ix2 b ⟨k, h⟩) :=
  dif_pos h

variable (m : (ℓ : Loc nD τ sig) → Buf (Elt Ideal) ℓ) (c : Dev nD)

/-- The two arguments. -/
abbrev argX : FVec Ideal S256x512 .f32 := m ((c.tc : Thread nD τ).loc main_arg0)
abbrev argY : FVec Ideal S256x512 .f32 := m ((c.tc : Thread nD τ).loc main_arg1)

theorem V_x : V m c main_v0 = transpose S512x256 [1, 0] (argX m c) transposes_S256x512_S512x256_1_0 := by
  simp only [V, V0, hostOps0, List.flatten_cons, List.flatten_nil, List.append_nil]
  after_results

theorem V_y : V m c main_v5 = Host.scatter scatter_S1536x256_S1_S512x256_01_n_0_0 (fun _ b => b)
    (broadcastInDim S1536x256 ![] bcast_S_S1536x256 (constant (F := Ideal) S_ .f32 0x00000000#32))
    (broadcastInDim S1 ![] bcast_S_S1 (constantI S_ 32 511#32))
    (transpose S512x256 [1, 0] (Host.reverse [1] (argY m c)) transposes_S256x512_S512x256_1_0) := by
  simp only [V, V0, hostOps0, List.flatten_cons, List.flatten_nil, List.append_nil]
  after_results

/-- A read of the first array. -/
theorem V_x_apply (r : Fin 512) (b : Fin 256) : V m c main_v0 (ix2 r b) = seq (argX m c) b r.val := by
  rw [V_x, seq_of_lt _ _ r.isLt]
  refine transpose_apply _ _ _ _ (ix2 b r) ?_
  intro a
  match a with
  | ⟨0, _⟩ => rfl
  | ⟨1, _⟩ => rfl

/-- Where an update lands: 511 rows further down. -/
theorem lands (k : S512x256.Idx) (i : S1536x256.Idx) :
    scatter_S1536x256_S1_S512x256_01_n_0_0.resultIdx? k (broadcastInDim S1 ![] bcast_S_S1 (constantI S_ 32 511#32)) = some i
      ↔ 511 + ((k 0).val : ℤ) = ((i 0).val : ℤ) ∧ ((k 1).val : ℤ) = ((i 1).val : ℤ) := by
  rw [Routing.resultIdx?_eq_some]
  constructor
  · intro h
    refine ⟨(h 0), ?_⟩
    have h1 := h 1
    have e : scatter_S1536x256_S1_S512x256_01_n_0_0.start k (broadcastInDim S1 ![] bcast_S_S1 (constantI S_ 32 511#32)) 1 = 0 := rfl
    have e2 : scatter_S1536x256_S1_S512x256_01_n_0_0.window k 1 = (k 1).val := rfl
    rw [e, e2] at h1
    omega
  · intro h a
    match a with
    | ⟨0, _⟩ => exact h.1
    | ⟨1, _⟩ =>
      refine Eq.trans ?_ h.2
      show (0 : ℤ) + ((k 1).val : ℤ) = _
      omega

/-- A read of the second array inside the rows that hold the sequence. -/
theorem V_y_apply (p : Fin 1536) (b : Fin 256) (h1 : 511 ≤ p.val) (h2 : p.val < 1023) :
    V m c main_v5 (ix2 p b) = seq (argY m c) b (1022 - p.val) := by
  rw [V_y, seq_of_lt _ _ (by omega : 1022 - p.val < 512)]
  refine Routing.scatter_set_hit _ _ _ _ _ _ (fun k hk => ?_) (ix2 ⟨p.val - 511, by omega⟩ b)
    ((lands _ _).2 ⟨?_, rfl⟩)
  · obtain ⟨h0, h1⟩ := (lands _ _).1 hk
    refine (transpose_apply _ _ _ k (ix2 ⟨(k 1).val, (k 1).isLt⟩ ⟨(k 0).val, (k 0).isLt⟩) ?_).trans ?_
    · intro a
      match a with
      | ⟨0, _⟩ => rfl
      | ⟨1, _⟩ => rfl
    · refine congrArg (argY m c) (funext fun a => ?_)
      have h0 : 511 + ((k 0).val : ℤ) = (p.val : ℤ) := h0
      have h1 : ((k 1).val : ℤ) = (b.val : ℤ) := h1
      match a with
      | ⟨0, _⟩ => exact Fin.ext (by show (k 1).val = b.val; omega)
      | ⟨1, _⟩ => exact Fin.ext (by show 512 - ((k 0).val + 1) = 1022 - p.val; omega)
  · show 511 + ((p.val - 511 : ℕ) : ℤ) = (p.val : ℤ)
    omega

end Sdtw

end
-- ==== Proof.Sdtw.Launch.lean ====
module

public import proofs.«01_k».proof.Proof.Sdtw.Host
public import proofs.«01_k».proof.Proof.Gen.KernelIdeal.Frame
public import Idealize.ShloMosaic.Lib.Pipeline.ValueKit

@[expose] public section

set_option maxRecDepth 16384

open Idealize Idealize.ShloMosaic Idealize.ShloMosaic.ValueIdx Idealize.ShloMosaic.TcCoe
open Cert.KernelIdeal Cert.KernelIdeal.Gen

/-!
The launch: what the two grid points leave in the output array, and the result of the whole program.
-/

noncomputable section

namespace Sdtw

variable (m : (ℓ : Loc nD τ sig) → Buf (Elt Ideal) ℓ) (c : Dev nD)

/-- The last entry of the table of sequence pair `b`. -/
def final (x y : FVec Ideal ⟨2, ![256, 512]⟩ .f32) (b : Fin 256) : EReal := R (seq x b) (seq y b) 1024 512

theorem index_x : ∀ t : Fin cfg0.N, win0_0.index t = ![0, t.val] := (by decide +kernel : ∀ t : Fin grid0.N, _)
theorem index_y : ∀ t : Fin cfg0.N, win0_1.index t = ![0, t.val] := (by decide +kernel : ∀ t : Fin grid0.N, _)
theorem index_out : ∀ t : Fin cfg0.N, win0_2.index t = ![t.val, 0, 0] := (by decide +kernel : ∀ t : Fin grid0.N, _)

theorem N_eq : cfg0.N = 2 := (by decide +kernel : grid0.N = 2)

/-- The sequence pair of lane `l` at grid point `t`. -/
def pair (t : Fin cfg0.N) (l : Fin 128) : Fin 256 := ⟨t.val * 128 + l.val, by have h : t.val < 2 := N_eq ▸ t.isLt; omega⟩

/-- A read through a block of the first window, of any array. -/
theorem blk_x (A : FVec Ideal S512x256 .f32) (t : Fin cfg0.N) (l : Fin 128) (r : ℕ) (hr : r < 512) :
    (win0_0.blk t).view.read (Elt Ideal) A (at2 r hr l) = A (ValueIdx.ix2 ⟨r, hr⟩ (pair t l)) := by
  blk_simp
  refine congrArg A (funext fun a => Fin.ext ?_)
  match a with
  | ⟨0, _⟩ =>
    refine (Pipeline.Window.rect_emb_val win0_0 t _ _).trans ?_
    rw [index_x]
    exact Nat.zero_add _
  | ⟨1, _⟩ =>
    refine (Pipeline.Window.rect_emb_val win0_0 t _ _).trans ?_
    rw [index_x]
    rfl

/-- A read through a block of the second window, of any array. -/
theorem blk_y (A : FVec Ideal S1536x256 .f32) (t : Fin cfg0.N) (l : Fin 128) (r : ℕ) (hr : r < 1536) :
    (win0_1.blk t).view.read (Elt Ideal) A (at2 r hr l) = A (ValueIdx.ix2 ⟨r, hr⟩ (pair t l)) := by
  blk_simp
  refine congrArg A (funext fun a => Fin.ext ?_)
  match a with
  | ⟨0, _⟩ =>
    refine (Pipeline.Window.rect_emb_val win0_1 t _ _).trans ?_
    rw [index_y]
    exact Nat.zero_add _
  | ⟨1, _⟩ =>
    refine (Pipeline.Window.rect_emb_val win0_1 t _ _).trans ?_
    rw [index_y]
    rfl

theorem iblk_x (t : Fin cfg0.N) (l : Fin 128) (r : ℕ) (hr : r < 512) :
    iblk m c 0 t (at2 r hr l) = seq (argX m c) (pair t l) r := by
  rw [← V_x_apply m c ⟨r, hr⟩ (pair t l)]
  exact blk_x (V m c main_v0) t l r hr

theorem iblk_y (t : Fin cfg0.N) (l : Fin 128) : YPad (seq (argY m c) (pair t l)) l (iblk m c 1 t) := by
  intro p hp h1 h2
  rw [← V_y_apply m c ⟨p, hp⟩ (pair t l) h1 h2]
  unfold iblk
  generalize V m c main_v5 = A
  exact blk_y A t l p hp

/-- What a grid point leaves in its block of the output. -/
theorem outs_apply (t : Fin cfg0.N) (j : S1x1x128.Idx) : outsAt0 m c t j = final (argX m c) (argY m c) (pair t (j 2)) := by
  unfold outsAt0 out0_A_2
  rw [View.read_writes_eq_canon _ _ _ (cover0_A_2 c (grid0.coords t) (ms0_0 t) (hs0_0 t) (ms0_1 t) (hs0_1 t) (ms0_2 t) (hs0_2 t)
    (iblk m c 0 t) (iblk m c 1 t)), pieces_eq, View.canon_cons_unit_lit _ _ _ (by decide)]
  refine (shapeCast_apply _ _ j (ValueIdx.ix1 (j 2)) ?_).trans (stored_lane _ _ _ _ _ (iblk_x m c t (j 2)) (iblk_y m c t (j 2)))
  rw [Shape.rowMajor_val_three, Shape.rowMajor_val_one]
  have h0 : (j 0).val < 1 := (j 0).isLt
  have h1 : (j 1).val < 1 := (j 1).isLt
  show (j 2).val = ((j 0).val * 1 + (j 1).val) * 128 + (j 2).val
  omega

/-- The output array: one row of 128 lanes for each grid point. -/
def outArr (x y : FVec Ideal ⟨2, ![256, 512]⟩ .f32) : FVec Ideal S2x1x128 .f32 := fun j =>
  final x y ⟨(j 0).val * 128 + (j 2).val, by
    have h0 : (j 0).val < 2 := (j 0).isLt
    have h2 : (j 2).val < 128 := (j 2).isLt
    omega⟩

theorem blk_out (A : FVec Ideal S2x1x128 .f32) (t : Fin cfg0.N) (j : S1x1x128.Idx) :
    (win0_2.blk t).view.read (Elt Ideal) A j = A (ValueIdx.ix3 ⟨t.val, N_eq ▸ t.isLt⟩ (0 : Fin 1) (j 2)) := by
  have h0 : (j 0).val < 1 := (j 0).isLt
  have h1 : (j 1).val < 1 := (j 1).isLt
  blk_simp
  refine congrArg A (funext fun a => Fin.ext ?_)
  refine (Pipeline.Window.rect_emb_val win0_2 t _ a).trans ?_
  rw [index_out]
  match a with
  | ⟨0, _⟩ =>
    show t.val * 1 + (j 0).val = t.val
    omega
  | ⟨1, _⟩ =>
    show 0 * 1 + (j 1).val = 0
    omega
  | ⟨2, _⟩ =>
    show 0 * 128 + (j 2).val = (j 2).val
    omega

theorem covers_out : (cfg0.win 2).Covers := by decide +kernel

theorem final_out : (dats m 0 c).arrAt 2 cfg0.N = outArr (argX m c) (argY m c) := by
  refine (dats m 0 c).arrAt_eq_of_cover 2 _ (fun t _ => funext fun y => ?_) (covers_out.cover _ (Memref.isWhole_whole _))
  refine Eq.trans ?_ (blk_out (outArr (argX m c) (argY m c)) t y).symm
  refine Eq.trans ?_ (outs_apply m c t y)
  rw [← after0_2]

/-- The mean over the batch of the entries divided by the two lengths. -/
def mean (v : FVec Ideal S256 .f32) : FVec Ideal S_ .f32 :=
  Host.divf (Host.reduceAdd (Host.divf v (broadcastInDim S256 ![] bcast_S_S256 (constant S_ .f32 0x44800000#32)))
    (constant S_ .f32 0x00000000#32) reducesTo_S256_S_d0 h_S_) (constant S_ .f32 0x43800000#32)

/-- What both programs return. -/
def result (x y : FVec Ideal ⟨2, ![256, 512]⟩ .f32) : FVec Ideal S_ .f32 := mean fun i => final x y (i 0)

theorem reshape_out (x y : FVec Ideal ⟨2, ![256, 512]⟩ .f32) :
    shapeCast S256 (outArr x y) shapeCasts_S2x1x128_S256 = fun i => final x y (i 0) := by
  funext i
  have hi : (i 0).val < 256 := (i 0).isLt
  refine (shapeCast_apply _ _ i (ValueIdx.ix3 ⟨(i 0).val / 128, by omega⟩ (0 : Fin 1) ⟨(i 0).val % 128, by omega⟩) ?_).trans ?_
  · rw [Shape.rowMajor_val_three, Shape.rowMajor_val_one]
    show ((i 0).val / 128 * 1 + 0) * 128 + (i 0).val % 128 = (i 0).val
    omega
  · refine congrArg (final x y) (Fin.ext ?_)
    show (i 0).val / 128 * 128 + (i 0).val % 128 = (i 0).val
    omega

/-- The reshape, from any contents. -/
theorem reshaped (W : Valuation τ sig (Elt Ideal)) :
    (StableHlo.reshape main_v6 main_v7 (rfl : (.f32 : EltTy) = .f32) shapeCasts_S2x1x128_S256 :
      HloOp τ sig (Elt Ideal)).result W (Proc.devRef .tc main_v7) = shapeCast S256 (W (Proc.devRef .tc main_v6)) shapeCasts_S2x1x128_S256 := by
  rw [StableHlo.reshape_result]
  rfl

/-- The operations after the reshape, from any contents. -/
theorem rest_out (W : Valuation τ sig (Elt Ideal)) :
    StableHlo.after (hostOps1 (F := Ideal)).tail W (Proc.devRef .tc main_v11) = mean (W (Proc.devRef .tc main_v7)) := by
  simp only [hostOps1, List.tail_cons]
  after_results
  rfl

/-- All the operations after the launch, from contents whose output array is known. -/
theorem tail_of (W : Valuation τ sig (Elt Ideal)) (x y : FVec Ideal ⟨2, ![256, 512]⟩ .f32)
    (e : W (Proc.devRef .tc main_v6) = outArr x y) :
    StableHlo.after (hostOps1 (F := Ideal)) W (Proc.devRef .tc main_v11) = result x y := by
  have h := rest_out ((StableHlo.reshape main_v6 main_v7 (rfl : (.f32 : EltTy) = .f32) shapeCasts_S2x1x128_S256 :
      HloOp τ sig (Elt Ideal)).result W)
  rw [reshaped, e, reshape_out] at h
  exact h

/-- The result buffer after the operations that follow the launch. -/
theorem tail_out : Pipeline.afterTail₀ cfgs (dats m) 0 (V0 m) [hostOps1] c main_v11 = result (argX m c) (argY m c) := by
  unfold Pipeline.afterTail₀
  rw [List.flatten_cons, List.flatten_nil, List.append_nil]
  refine tail_of _ _ _ ?_
  rw [← final_out m c]
  exact Pipeline.withArrays_arr (cfgs 0).spec (by decide) c (V0 m c) (fun w => (dats m 0 c).arrAt w (cfgs 0).N) 2

/-- The idealized kernel program returns `result` and leaves its arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = result (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
      ⟨((h.1 c).2 main_v11 (Pipeline.mem_restRefs_of main_v11 (by decide) (by decide))).trans (tail_out m c), h.2 c⟩)
    (θ_run_and (run_main m ρ) (unchanged m ρ))

end Sdtw

end
-- ==== Proof.Sdtw.RefStep.lean ====
module

public import proofs.«01_k».proof.Proof.Sdtw.Launch
public import proofs.«01_k».proof.Proof.Gen.ReferenceIdeal.Run

@[expose] public section

set_option maxRecDepth 16384

open Idealize Idealize.ShloMosaic Idealize.ShloMosaic.TcCoe
open Cert.ReferenceIdeal Cert.ReferenceIdeal.Gen Cert.ReferenceIdeal.Value

/-!
One trip of the reference's loop, from a state that holds two neighbouring anti-diagonals.
-/

noncomputable section

namespace Sdtw.Ref

/-! ### Words -/

theorem toInt_ofNat {n : ℕ} (h : n < 2147483648) : (BitVec.ofNat 32 n).toInt = n := by
  rw [BitVec.toInt_eq_toNat_of_lt] <;> simp only [BitVec.toNat_ofNat] <;> omega

theorem toInt_sub {u v : BitVec 32} {a b : ℤ} (hu : u.toInt = a) (hv : v.toInt = b) (h1 : -2147483648 ≤ a - b)
    (h2 : a - b < 2147483648) : (IntOp.subi u v).toInt = a - b := by
  show (u - v).toInt = _
  rw [BitVec.toInt_sub, hu, hv]
  exact Int.bmod_eq_of_le (by norm_num; omega) (by norm_num; omega)

theorem sge_iff {u v : BitVec 32} {a b : ℤ} (hu : u.toInt = a) (hv : v.toInt = b) :
    IntOp.cmpi .sge u v = BitVec.ofBool (decide (b ≤ a)) := by
  show BitVec.ofBool (v.sle u) = _
  rw [BitVec.sle_eq_decide, hu, hv]

theorem sle_iff {u v : BitVec 32} {a b : ℤ} (hu : u.toInt = a) (hv : v.toInt = b) :
    IntOp.cmpi .sle u v = BitVec.ofBool (decide (a ≤ b)) := by
  show BitVec.ofBool (u.sle v) = _
  rw [BitVec.sle_eq_decide, hu, hv]

/-- Clipping a word between 0 and 511. -/
theorem clip {u : BitVec 32} {a : ℤ} (hu : u.toInt = a) (h : a ≤ 511) :
    (IntOp.minsi 511#32 (IntOp.maxsi 0#32 u)).toInt.toNat = a.toNat := by
  have hm : (IntOp.maxsi 0#32 u).toInt = max 0 a := by
    unfold IntOp.maxsi
    rw [BitVec.slt_eq_decide, hu]
    have h0 : (0#32 : BitVec 32).toInt = 0 := rfl
    rw [h0]
    by_cases hc : a < 0
    · rw [if_pos (decide_eq_true hc), h0, max_eq_left hc.le]
    · rw [if_neg (by simpa using hc), hu, max_eq_right (not_lt.1 hc)]
  unfold IntOp.minsi
  rw [BitVec.slt_eq_decide, hm]
  have h5 : (511#32 : BitVec 32).toInt = 511 := rfl
  rw [h5, if_neg (by simp only [decide_eq_true_eq]; omega), hm]
  omega

/-- The mask of the cells inside the table. -/
theorem mask_iff {K i : ℕ} (hK : K ≤ 1024) (hi : i ≤ 512) :
    IntOp.andi (IntOp.andi (IntOp.cmpi .sge (BitVec.ofNat 32 i) 1#32)
      (IntOp.cmpi .sge (IntOp.subi (BitVec.ofNat 32 K) (BitVec.ofNat 32 i)) 1#32))
      (IntOp.cmpi .sle (IntOp.subi (BitVec.ofNat 32 K) (BitVec.ofNat 32 i)) 512#32) = 1
      ↔ 1 ≤ i ∧ i + 1 ≤ K ∧ K ≤ i + 512 := by
  have h1 : (1#32 : BitVec 32).toInt = 1 := rfl
  have h5 : (512#32 : BitVec 32).toInt = 512 := rfl
  have hi' := toInt_ofNat (n := i) (by omega)
  have hs := toInt_sub (toInt_ofNat (n := K) (by omega)) hi' (by omega) (by omega)
  rw [sge_iff hi' h1, sge_iff hs h1, sle_iff hs h5]
  have e : ∀ p q r : Bool, IntOp.andi (IntOp.andi (BitVec.ofBool p) (BitVec.ofBool q)) (BitVec.ofBool r) = 1 ↔ p = true ∧ q = true ∧ r = true := by
    decide
  rw [e]
  simp only [decide_eq_true_eq]
  omega

/-! ### Layout operations, read at an index -/

/-- The gather of one cell of the distance table for each place of a diagonal. -/
theorem gather_at {α : Type} (D : S256x512x512.Idx → α) (idx : IVec S513x2 32) (b : Fin 256) (i : Fin 513) (r c : Fin 512)
    (hr : (idx (ValueIdx.ix2 i (0 : Fin 2))).toInt.toNat = r) (hc : (idx (ValueIdx.ix2 i (1 : Fin 2))).toInt.toNat = c) :
    Host.gather gather_S256x512x512_S513x2_S256x513_0_12_n_n_12_1_25611 D idx (ValueIdx.ix2 b i) = D (ValueIdx.ix3 b r c) := by
  refine congrArg D (funext fun a => Fin.ext ?_)
  have e (q : Fin 2) : gather_S256x512x512_S513x2_S256x513_0_12_n_n_12_1_25611.siIdx (ValueIdx.ix2 b i) q = ValueIdx.ix2 i q := by
    funext z
    match z with
    | ⟨0, _⟩ => rfl
    | ⟨1, _⟩ => rfl
  match a with
  | ⟨0, _⟩ =>
    show 0 + 0 + b.val = b.val
    omega
  | ⟨1, _⟩ =>
    show min (idx (gather_S256x512x512_S513x2_S256x513_0_12_n_n_12_1_25611.siIdx (ValueIdx.ix2 b i) (0 : Fin 2))).toInt.toNat (512 - 1) + 0 + 0 = r.val
    rw [e, hr]
    omega
  | ⟨2, _⟩ =>
    show min (idx (gather_S256x512x512_S513x2_S256x513_0_12_n_n_12_1_25611.siIdx (ValueIdx.ix2 b i) (1 : Fin 2))).toInt.toNat (512 - 1) + 0 + 0 = c.val
    rw [e, hc]
    omega

/-- A diagonal moved one place along, past the first place. -/
theorem shifted_at (q : FVec Ideal S256x1 .f32) (A : FVec Ideal S256x513 .f32) (b : Fin 256) (i : ℕ) (hi : i < 512) :
    concatenate S256x513 1 [⟨S256x1, q⟩, ⟨S256x512, extractStridedSlice S256x512 ![0, 0] A slices_S256x513_S256x512_0_0⟩]
      concatenates_S256x1_S256x512_S256x513_d1 (ValueIdx.ix2 b ⟨i + 1, by omega⟩) = A (ValueIdx.ix2 b ⟨i, by omega⟩) := by
  refine (concatenate_pair_apply_right (s₁ := S256x1) (s₂ := S256x512) (1 : Fin S256x513.rank) _ _ _ (ValueIdx.ix2 b ⟨i + 1, by omega⟩) rfl rfl
    (ValueIdx.ix2 b ⟨i, hi⟩) ?_ rfl).trans ?_
  · intro z hz
    match z with
    | ⟨0, _⟩ => rfl
    | ⟨1, _⟩ => exact absurd rfl hz
  · refine (extractStridedSlice_apply _ _ _ _ (ValueIdx.ix2 b ⟨i, by omega⟩) ?_)
    intro z
    match z with
    | ⟨0, _⟩ => exact (Nat.zero_add _).symm
    | ⟨1, _⟩ => exact (Nat.zero_add _).symm

/-- One of the two stacked diagonals. -/
theorem row0_at (A : FVec Ideal S2x256x513 .f32) (b : Fin 256) (i : Fin 513) :
    shapeCast S256x513 (extractStridedSlice S1x256x513 ![0, 0, 0] A slices_S2x256x513_S1x256x513_0_0_0)
      shapeCasts_S1x256x513_S256x513 (ValueIdx.ix2 b i) = A (ValueIdx.ix3 (0 : Fin 2) b i) := by
  refine (shapeCast_apply _ _ _ (ValueIdx.ix3 (0 : Fin 1) b i) ?_).trans (extractStridedSlice_apply _ _ _ _ _ ?_)
  · rw [Shape.rowMajor_val_three, Shape.rowMajor_val_two]
    show (0 * 256 + b.val) * 513 + i.val = b.val * 513 + i.val
    omega
  · intro z
    match z with
    | ⟨0, _⟩ => rfl
    | ⟨1, _⟩ => exact (Nat.zero_add _).symm
    | ⟨2, _⟩ => exact (Nat.zero_add _).symm

theorem row1_at (A : FVec Ideal S2x256x513 .f32) (b : Fin 256) (i : Fin 513) :
    shapeCast S256x513 (extractStridedSlice S1x256x513 ![1, 0, 0] A slices_S2x256x513_S1x256x513_1_0_0)
      shapeCasts_S1x256x513_S256x513 (ValueIdx.ix2 b i) = A (ValueIdx.ix3 (1 : Fin 2) b i) := by
  refine (shapeCast_apply _ _ _ (ValueIdx.ix3 (0 : Fin 1) b i) ?_).trans (extractStridedSlice_apply _ _ _ _ _ ?_)
  · rw [Shape.rowMajor_val_three, Shape.rowMajor_val_two]
    show (0 * 256 + b.val) * 513 + i.val = b.val * 513 + i.val
    omega
  · intro z
    match z with
    | ⟨0, _⟩ => rfl
    | ⟨1, _⟩ => exact (Nat.zero_add _).symm
    | ⟨2, _⟩ => exact (Nat.zero_add _).symm

/-- Two diagonals stacked, read at either of them. -/
theorem stack0_at (A B : FVec Ideal S256x513 .f32) (b : Fin 256) (i : Fin 513) :
    concatenate S2x256x513 0 [⟨S1x256x513, broadcastInDim S1x256x513 ![1, 2] bcast_S256x513_S1x256x513_1_2 A⟩,
      ⟨S1x256x513, broadcastInDim S1x256x513 ![1, 2] bcast_S256x513_S1x256x513_1_2 B⟩]
      concatenates_S1x256x513_S1x256x513_S2x256x513_d0 (ValueIdx.ix3 (0 : Fin 2) b i) = A (ValueIdx.ix2 b i) := by
  refine (concatenate_pair_apply_left (s₁ := S1x256x513) (s₂ := S1x256x513) (0 : Fin S2x256x513.rank) _ _ _ (ValueIdx.ix3 (0 : Fin 2) b i) rfl
    (ValueIdx.ix3 (0 : Fin 1) b i) ?_).trans ?_
  · intro z
    match z with
    | ⟨0, _⟩ => rfl
    | ⟨1, _⟩ => rfl
    | ⟨2, _⟩ => rfl
  · refine broadcastInDim_apply _ _ _ _ _ ?_
    intro z
    match z with
    | ⟨0, _⟩ => rfl
    | ⟨1, _⟩ => rfl

theorem stack1_at (A B : FVec Ideal S256x513 .f32) (b : Fin 256) (i : Fin 513) :
    concatenate S2x256x513 0 [⟨S1x256x513, broadcastInDim S1x256x513 ![1, 2] bcast_S256x513_S1x256x513_1_2 A⟩,
      ⟨S1x256x513, broadcastInDim S1x256x513 ![1, 2] bcast_S256x513_S1x256x513_1_2 B⟩]
      concatenates_S1x256x513_S1x256x513_S2x256x513_d0 (ValueIdx.ix3 (1 : Fin 2) b i) = B (ValueIdx.ix2 b i) := by
  refine (concatenate_pair_apply_right (s₁ := S1x256x513) (s₂ := S1x256x513) (0 : Fin S2x256x513.rank) _ _ _ (ValueIdx.ix3 (1 : Fin 2) b i) rfl rfl
    (ValueIdx.ix3 (0 : Fin 1) b i) ?_ rfl).trans ?_
  · intro z hz
    match z with
    | ⟨0, _⟩ => exact absurd rfl hz
    | ⟨1, _⟩ => rfl
    | ⟨2, _⟩ => rfl
  · refine broadcastInDim_apply _ _ _ _ _ ?_
    intro z
    match z with
    | ⟨0, _⟩ => rfl
    | ⟨1, _⟩ => rfl

/-- The indices of the gather: the row and the column of each place. -/
theorem index0_at (u v : IVec S513 32) (i : Fin 513) :
    concatenate S513x2 1 [⟨S513x1, broadcastInDim S513x1 ![0] bcast_S513_S513x1_0 u⟩,
      ⟨S513x1, broadcastInDim S513x1 ![0] bcast_S513_S513x1_0 v⟩] concatenates_S513x1_S513x1_S513x2_d1
      (ValueIdx.ix2 i (0 : Fin 2)) = u (ValueIdx.ix1 i) := by
  refine (concatenate_pair_apply_left (s₁ := S513x1) (s₂ := S513x1) (1 : Fin S513x2.rank) _ _ _ (ValueIdx.ix2 i (0 : Fin 2)) rfl
    (ValueIdx.ix2 i (0 : Fin 1)) ?_).trans ?_
  · intro z
    match z with
    | ⟨0, _⟩ => rfl
    | ⟨1, _⟩ => rfl
  · refine broadcastInDim_apply _ _ _ _ _ ?_
    intro z
    match z with
    | ⟨0, _⟩ => rfl

theorem index1_at (u v : IVec S513 32) (i : Fin 513) :
    concatenate S513x2 1 [⟨S513x1, broadcastInDim S513x1 ![0] bcast_S513_S513x1_0 u⟩,
      ⟨S513x1, broadcastInDim S513x1 ![0] bcast_S513_S513x1_0 v⟩] concatenates_S513x1_S513x1_S513x2_d1
      (ValueIdx.ix2 i (1 : Fin 2)) = v (ValueIdx.ix1 i) := by
  refine (concatenate_pair_apply_right (s₁ := S513x1) (s₂ := S513x1) (1 : Fin S513x2.rank) _ _ _ (ValueIdx.ix2 i (1 : Fin 2)) rfl rfl
    (ValueIdx.ix2 i (0 : Fin 1)) ?_ rfl).trans ?_
  · intro z hz
    match z with
    | ⟨0, _⟩ => rfl
    | ⟨1, _⟩ => exact absurd rfl hz
  · refine broadcastInDim_apply _ _ _ _ _ ?_
    intro z
    match z with
    | ⟨0, _⟩ => rfl

theorem ofBits_ten : Ideal.ofBits .f32 0x41200000#32 = ((10 : ℝ) : EReal) := by
  simp [Ideal.ofBits, Ideal.ieee]
  rw [← EReal.coe_mul]
  norm_num

theorem ofBits_inf : Ideal.ofBits .f32 0x7F800000#32 = ⊤ := by
  simp [Ideal.ofBits, Ideal.ieee]

/-- A row of words spread over the batch. -/
theorem spread_at (u : IVec S513 1) (b : Fin 256) (i : Fin 513) :
    broadcastInDim S256x513 ![0, 1] bcast_S1x513_S256x513_0_1 (broadcastInDim S1x513 ![1] bcast_S513_S1x513_1 u)
      (ValueIdx.ix2 b i) = u (ValueIdx.ix1 i) := by
  refine (broadcastInDim_apply _ _ _ _ (ValueIdx.ix2 (0 : Fin 1) i) ?_).trans (broadcastInDim_apply _ _ _ _ _ ?_)
  · intro z
    match z with
    | ⟨0, _⟩ => rfl
    | ⟨1, _⟩ => rfl
  · intro z
    match z with
    | ⟨0, _⟩ => rfl

/-! ### One trip -/

/-- The carried arrays, with their shapes. -/
abbrev rowsOf (V : Valuation τ sig (Elt Ideal)) : IVec S513 32 := V (Proc.devRef .tc main_v19_1)
abbrev aboveOf (V : Valuation τ sig (Elt Ideal)) : IVec S513 32 := V (Proc.devRef .tc main_v19_2)
abbrev tableOf (V : Valuation τ sig (Elt Ideal)) : FVec Ideal S256x512x512 .f32 := V (Proc.devRef .tc main_v19_3)
abbrev countOf (V : Valuation τ sig (Elt Ideal)) : IVec S_ 32 := V (Proc.devRef .tc main_v19_5)
abbrev pairOf (V : Valuation τ sig (Elt Ideal)) : FVec Ideal S2x256x513 .f32 := V (Proc.devRef .tc main_v19_6)

/-- Before the trip that fills anti-diagonal `k + 2`: anti-diagonals `k` and `k + 1` are carried, next to the fixed tables. -/
structure Inv (x y : FVec Ideal S256x512 .f32) (k : ℕ) (V : Valuation τ sig (Elt Ideal)) : Prop where
  rows : ∀ i : Fin 513, rowsOf V (ValueIdx.ix1 i) = BitVec.ofNat 32 i.val
  above : ∀ i : Fin 513, (aboveOf V (ValueIdx.ix1 i)).toInt.toNat = i.val - 1
  table : ∀ (b : Fin 256) (i j : Fin 512), tableOf V (ValueIdx.ix3 b i j) = dist (x (ValueIdx.ix2 b i)) (y (ValueIdx.ix2 b j))
  count : countOf V = fun _ => BitVec.ofNat 32 (k + 2)
  older : ∀ (b : Fin 256) (i : Fin 513), pairOf V (ValueIdx.ix3 (0 : Fin 2) b i) = R (seq x b) (seq y b) k i.val
  newer : ∀ (b : Fin 256) (i : Fin 513), pairOf V (ValueIdx.ix3 (1 : Fin 2) b i) = R (seq x b) (seq y b) (k + 1) i.val

theorem v30_at (V : Valuation τ sig (Elt Ideal)) (b : Fin 256) (i : Fin 513) :
    res_main_while0b_v30 V (ValueIdx.ix2 b i) = pairOf V (ValueIdx.ix3 (1 : Fin 2) b i) :=
  row1_at _ b i

theorem v43_at (V : Valuation τ sig (Elt Ideal)) (b : Fin 256) (i : Fin 513) :
    res_main_while0b_v43 V (ValueIdx.ix2 b i) = -(pairOf V (ValueIdx.ix3 (1 : Fin 2) b i)) * ((10 : ℝ) : EReal) := by
  rw [← v30_at, ← ofBits_ten]
  rfl

theorem v40_at (V : Valuation τ sig (Elt Ideal)) (b : Fin 256) (i : ℕ) (hi : i < 512) :
    res_main_while0b_v40 V (ValueIdx.ix2 b ⟨i + 1, by omega⟩) =
      -(pairOf V (ValueIdx.ix3 (1 : Fin 2) b ⟨i, by omega⟩)) * ((10 : ℝ) : EReal) := by
  rw [← v30_at, ← ofBits_ten, ← shifted_at (V (Proc.devRef .tc main_v19_0)) (res_main_while0b_v30 V) b i hi]
  rfl

theorem v37_at (V : Valuation τ sig (Elt Ideal)) (b : Fin 256) (i : ℕ) (hi : i < 512) :
    res_main_while0b_v37 V (ValueIdx.ix2 b ⟨i + 1, by omega⟩) =
      -(pairOf V (ValueIdx.ix3 (0 : Fin 2) b ⟨i, by omega⟩)) * ((10 : ℝ) : EReal) := by
  rw [← row0_at (pairOf V) b, ← ofBits_ten, ← shifted_at (V (Proc.devRef .tc main_v19_0))
    (shapeCast S256x513 (extractStridedSlice S1x256x513 ![0, 0, 0] (pairOf V) slices_S2x256x513_S1x256x513_0_0_0)
      shapeCasts_S1x256x513_S256x513) b i hi]
  rfl

/-- The soft minimum of a cell, from the three carried neighbours. -/
theorem softmin_at (u v w : FVec Ideal S256x513 .f32) (j : S256x513.Idx) (r0 r1 r2 : EReal)
    (hu : u j = -r0 * ((10 : ℝ) : EReal)) (hv : v j = -r1 * ((10 : ℝ) : EReal)) (hw : w j = -r2 * ((10 : ℝ) : EReal)) :
    Host.divf (Host.negf (addf (Host.log (addf (addf (Host.exp (subf u (maximumf (maximumf u v) w)))
      (Host.exp (subf v (maximumf (maximumf u v) w)))) (Host.exp (subf w (maximumf (maximumf u v) w)))))
      (maximumf (maximumf u v) w))) (broadcastInDim S256x513 ![] bcast_S_S256x513 (constant S_ .f32 0x41200000#32)) j
      = softmin r0 r1 r2 := by
  show Ideal.div (-(Ideal.log (Ideal.exp (u j - max (max (u j) (v j)) (w j)) + Ideal.exp (v j - max (max (u j) (v j)) (w j))
    + Ideal.exp (w j - max (max (u j) (v j)) (w j))) + max (max (u j) (v j)) (w j))) (Ideal.ofBits .f32 0x41200000#32) = _
  rw [ofBits_ten, Ideal.div_coe (by norm_num), hu, hv, hw]
  rfl

/-- The row of each place, its column, and the mask, as words. -/
def colOf (K : IVec S_ 32) (u : IVec S513 32) : IVec S513 32 :=
  minsi (broadcastInDim S513 ![] bcast_S_S513 (id (constantI S_ 32 511#32)))
    (maxsi (broadcastInDim S513 ![] bcast_S_S513 (id (constantI S_ 32 0#32)))
      (subi (subi (broadcastInDim S513 ![] bcast_S_S513 (id K)) u) (broadcastInDim S513 ![] bcast_S_S513 (constantI S_ 32 1#32))))

def maskOf (K : IVec S_ 32) (u : IVec S513 32) : IVec S513 1 :=
  andi (andi (cmpi .sge u (broadcastInDim S513 ![] bcast_S_S513 (constantI S_ 32 1#32)))
    (cmpi .sge (subi (broadcastInDim S513 ![] bcast_S_S513 (id K)) u) (broadcastInDim S513 ![] bcast_S_S513 (constantI S_ 32 1#32))))
    (cmpi .sle (subi (broadcastInDim S513 ![] bcast_S_S513 (id K)) u) (broadcastInDim S513 ![] bcast_S_S513 (constantI S_ 32 512#32)))

theorem colOf_at (K i : ℕ) (hK : K ≤ 1024) (u : IVec S513 32) (hi : i < 513) (hu : u (ValueIdx.ix1 ⟨i, hi⟩) = BitVec.ofNat 32 i)
    (h : K ≤ i + 512) : (colOf (fun _ => BitVec.ofNat 32 K) u (ValueIdx.ix1 ⟨i, hi⟩)).toInt.toNat = K - i - 1 := by
  have e : colOf (fun _ => BitVec.ofNat 32 K) u (ValueIdx.ix1 ⟨i, hi⟩) =
      IntOp.minsi 511#32 (IntOp.maxsi 0#32 (IntOp.subi (IntOp.subi (BitVec.ofNat 32 K) (u (ValueIdx.ix1 ⟨i, hi⟩))) 1#32)) := rfl
  rw [e, hu]
  have h1 : (1#32 : BitVec 32).toInt = 1 := rfl
  have hs := toInt_sub (toInt_ofNat (n := K) (by omega)) (toInt_ofNat (n := i) (by omega)) (by omega) (by omega)
  rw [clip (toInt_sub hs h1 (by omega) (by omega)) (by omega)]
  omega

theorem maskOf_at (K i : ℕ) (hK : K ≤ 1024) (u : IVec S513 32) (hi : i < 513) (hu : u (ValueIdx.ix1 ⟨i, hi⟩) = BitVec.ofNat 32 i) :
    maskOf (fun _ => BitVec.ofNat 32 K) u (ValueIdx.ix1 ⟨i, hi⟩) = 1 ↔ 1 ≤ i ∧ i + 1 ≤ K ∧ K ≤ i + 512 := by
  have e : maskOf (fun _ => BitVec.ofNat 32 K) u (ValueIdx.ix1 ⟨i, hi⟩) =
      IntOp.andi (IntOp.andi (IntOp.cmpi .sge (u (ValueIdx.ix1 ⟨i, hi⟩)) 1#32)
      (IntOp.cmpi .sge (IntOp.subi (BitVec.ofNat 32 K) (u (ValueIdx.ix1 ⟨i, hi⟩))) 1#32))
      (IntOp.cmpi .sle (IntOp.subi (BitVec.ofNat 32 K) (u (ValueIdx.ix1 ⟨i, hi⟩))) 512#32) := rfl
  rw [e, hu, mask_iff hK (by omega)]

/-- The soft minima of a diagonal. -/
def softOf (V : Valuation τ sig (Elt Ideal)) : FVec Ideal S256x513 .f32 :=
  Host.divf (Host.negf (addf (Host.log (addf (addf (Host.exp (subf (res_main_while0b_v37 V) (res_main_while0b_v45 V)))
    (Host.exp (subf (res_main_while0b_v40 V) (res_main_while0b_v45 V)))) (Host.exp (subf (res_main_while0b_v43 V) (res_main_while0b_v45 V)))))
    (res_main_while0b_v45 V))) (broadcastInDim S256x513 ![] bcast_S_S256x513 (constant S_ .f32 0x41200000#32))

theorem softOf_at (V : Valuation τ sig (Elt Ideal)) (b : Fin 256) (i : ℕ) (hi : i < 512) :
    softOf V (ValueIdx.ix2 b ⟨i + 1, by omega⟩) = softmin (pairOf V (ValueIdx.ix3 (0 : Fin 2) b ⟨i, by omega⟩))
      (pairOf V (ValueIdx.ix3 (1 : Fin 2) b ⟨i, by omega⟩)) (pairOf V (ValueIdx.ix3 (1 : Fin 2) b ⟨i + 1, by omega⟩)) :=
  softmin_at _ _ _ _ _ _ _ (v37_at V b i hi) (v40_at V b i hi) (v43_at V b _)

/-- The new diagonal. -/
def freshOf (V : Valuation τ sig (Elt Ideal)) : FVec Ideal S256x513 .f32 :=
  select (broadcastInDim S256x513 ![0, 1] bcast_S1x513_S256x513_0_1 (broadcastInDim S1x513 ![1] bcast_S513_S1x513_1
      (maskOf (countOf V) (rowsOf V))))
    (addf (Host.gather gather_S256x512x512_S513x2_S256x513_0_12_n_n_12_1_25611 (tableOf V)
      (concatenate S513x2 1 [⟨S513x1, broadcastInDim S513x1 ![0] bcast_S513_S513x1_0 (aboveOf V)⟩,
        ⟨S513x1, broadcastInDim S513x1 ![0] bcast_S513_S513x1_0 (colOf (countOf V) (rowsOf V))⟩]
        concatenates_S513x1_S513x1_S513x2_d1)) (softOf V))
    (broadcastInDim S256x513 ![] bcast_S_S256x513 (id (constant S_ .f32 0x7F800000#32)))

theorem step_eq (V : Valuation τ sig (Elt Ideal)) : step_main_v19_6 V =
    concatenate S2x256x513 0 [⟨S1x256x513, broadcastInDim S1x256x513 ![1, 2] bcast_S256x513_S1x256x513_1_2 (res_main_while0b_v30 V)⟩,
      ⟨S1x256x513, broadcastInDim S1x256x513 ![1, 2] bcast_S256x513_S1x256x513_1_2 (freshOf V)⟩]
      concatenates_S1x256x513_S1x256x513_S2x256x513_d0 := rfl

variable {x y : FVec Ideal S256x512 .f32} {k : ℕ} {V : Valuation τ sig (Elt Ideal)}

/-- The new diagonal is the next anti-diagonal of the table. -/
theorem freshOf_at (h : Inv x y k V) (hk : k ≤ 1022) (b : Fin 256) (i : Fin 513) :
    freshOf V (ValueIdx.ix2 b i) = R (seq x b) (seq y b) (k + 2) i.val := by
  have e : freshOf V (ValueIdx.ix2 b i) = Scalar.select
      (broadcastInDim S256x513 ![0, 1] bcast_S1x513_S256x513_0_1 (broadcastInDim S1x513 ![1] bcast_S513_S1x513_1
        (maskOf (countOf V) (rowsOf V))) (ValueIdx.ix2 b i))
      (Host.gather gather_S256x512x512_S513x2_S256x513_0_12_n_n_12_1_25611 (tableOf V)
        (concatenate S513x2 1 [⟨S513x1, broadcastInDim S513x1 ![0] bcast_S513_S513x1_0 (aboveOf V)⟩,
          ⟨S513x1, broadcastInDim S513x1 ![0] bcast_S513_S513x1_0 (colOf (countOf V) (rowsOf V))⟩]
          concatenates_S513x1_S513x1_S513x2_d1) (ValueIdx.ix2 b i) + softOf V (ValueIdx.ix2 b i))
      (Ideal.ofBits .f32 0x7F800000#32) := rfl
  rw [e, spread_at, ofBits_inf, R.eq_3, h.count]
  unfold Scalar.select
  obtain ⟨i, hi⟩ := i
  by_cases hc : 1 ≤ i ∧ i + 1 ≤ k + 2 ∧ k + 2 ≤ i + 512
  · rw [if_pos ((maskOf_at (k + 2) i (by omega) _ hi (h.rows ⟨i, hi⟩)).2 hc), if_pos hc]
    obtain ⟨j, rfl⟩ : ∃ j, i = j + 1 := ⟨i - 1, by omega⟩
    have hj : j < 512 := by omega
    rw [gather_at _ _ b ⟨j + 1, hi⟩ ⟨j, hj⟩ ⟨k + 2 - (j + 1) - 1, by omega⟩
      ((congrArg (fun w : BitVec 32 => w.toInt.toNat) (index0_at _ _ _)).trans (h.above ⟨j + 1, hi⟩))
      ((congrArg (fun w : BitVec 32 => w.toInt.toNat) (index1_at _ _ _)).trans
        (colOf_at (k + 2) (j + 1) (by omega) _ hi (h.rows ⟨j + 1, hi⟩) (by omega))),
      h.table, softOf_at V b j hj, h.older, h.newer, h.newer]
    congr 2
    · exact (seq_of_lt x b hj).symm
    · exact (seq_of_lt y b (k := k + 2 - (j + 1) - 1) (by omega)).symm
  · rw [if_neg fun hm => hc ((maskOf_at (k + 2) i (by omega) _ hi (h.rows ⟨i, hi⟩)).1 hm), if_neg hc]

/-- One trip moves on by one anti-diagonal. -/
theorem step (h : Inv x y k V) (hk : k ≤ 1022) : Inv x y (k + 1) (STEP V) where
  rows := by
    intro i
    unfold rowsOf
    rw [STEP_main_v19_1]
    exact h.rows i
  above := by
    intro i
    unfold aboveOf
    rw [STEP_main_v19_2]
    exact h.above i
  table := by
    intro b i j
    unfold tableOf
    rw [STEP_main_v19_3]
    exact h.table b i j
  count := by
    unfold countOf
    rw [STEP_main_v19_5]
    show addi (countOf V) (constantI S_ 32 1#32) = _
    rw [h.count]
    funext j
    show BitVec.ofNat 32 (k + 2) + 1#32 = BitVec.ofNat 32 (k + 1 + 2)
    rw [show k + 1 + 2 = k + 2 + 1 from by omega, BitVec.ofNat_add (k + 2) 1]
  older := by
    intro b i
    unfold pairOf
    rw [STEP_main_v19_6, step_eq, stack0_at, v30_at]
    exact h.newer b i
  newer := by
    intro b i
    unfold pairOf
    rw [STEP_main_v19_6, step_eq, stack1_at]
    exact freshOf_at h hk b i

/-- Any number of trips, as long as the table lasts. -/
theorem steps (h : Inv x y 0 V) : ∀ n ≤ 1023, Inv x y n (STEP^[n] V)
  | 0, _ => h
  | n + 1, hn => by
    rw [Function.iterate_succ_apply']
    exact step (steps h n (by omega)) (by omega)

end Sdtw.Ref
-- ==== Proof.Sdtw.RefValue.lean ====
module

public import proofs.«01_k».proof.Proof.Sdtw.RefStep

@[expose] public section

set_option maxRecDepth 16384

open Idealize Idealize.ShloMosaic Idealize.ShloMosaic.TcCoe Idealize.SL.Sem
open Idealize.ShloMosaic.StableHlo Idealize.ShloMosaic.HostLoop
open Cert.ReferenceIdeal Cert.ReferenceIdeal.Gen Cert.ReferenceIdeal.Value

/-!
The whole reference: what the loop starts from, what it ends with, and the mean over the batch.
-/

noncomputable section

namespace Sdtw.Ref

/-! ### The arrays the loop starts from -/

/-- The distance table. -/
def table0 (x y : FVec Ideal S256x512 .f32) : FVec Ideal S256x512x512 .f32 :=
  Host.absf (subf
    (broadcastInDim S256x512x512 ![0, 1, 2] bcast_S256x512x1_S256x512x512_0_1_2
      (broadcastInDim S256x512x1 ![0, 1] bcast_S256x512_S256x512x1_0_1 x))
    (broadcastInDim S256x512x512 ![0, 1, 2] bcast_S256x1x512_S256x512x512_0_1_2
      (broadcastInDim S256x1x512 ![0, 2] bcast_S256x512_S256x1x512_0_2 y)))

theorem table0_at (x y : FVec Ideal S256x512 .f32) (b : Fin 256) (i j : Fin 512) :
    table0 x y (ValueIdx.ix3 b i j) = dist (x (ValueIdx.ix2 b i)) (y (ValueIdx.ix2 b j)) := by
  have ex : broadcastInDim S256x512x512 ![0, 1, 2] bcast_S256x512x1_S256x512x512_0_1_2
      (broadcastInDim S256x512x1 ![0, 1] bcast_S256x512_S256x512x1_0_1 x) (ValueIdx.ix3 b i j) = x (ValueIdx.ix2 b i) := by
    refine (broadcastInDim_apply _ _ _ _ (ValueIdx.ix3 b i (0 : Fin 1)) ?_).trans (broadcastInDim_apply _ _ _ _ _ ?_)
    · intro z
      match z with
      | ⟨0, _⟩ => rfl
      | ⟨1, _⟩ => rfl
      | ⟨2, _⟩ => rfl
    · intro z
      match z with
      | ⟨0, _⟩ => rfl
      | ⟨1, _⟩ => rfl
  have ey : broadcastInDim S256x512x512 ![0, 1, 2] bcast_S256x1x512_S256x512x512_0_1_2
      (broadcastInDim S256x1x512 ![0, 2] bcast_S256x512_S256x1x512_0_2 y) (ValueIdx.ix3 b i j) = y (ValueIdx.ix2 b j) := by
    refine (broadcastInDim_apply _ _ _ _ (ValueIdx.ix3 b (0 : Fin 1) j) ?_).trans (broadcastInDim_apply _ _ _ _ _ ?_)
    · intro z
      match z with
      | ⟨0, _⟩ => rfl
      | ⟨1, _⟩ => rfl
      | ⟨2, _⟩ => rfl
    · intro z
      match z with
      | ⟨0, _⟩ => rfl
      | ⟨1, _⟩ => rfl
  rw [← ex, ← ey]
  rfl

/-- The row each place of a diagonal reads. -/
def above0 : IVec S513 32 :=
  minsi (broadcastInDim S513 ![] bcast_S_S513 (id (constantI S_ 32 511#32)))
    (maxsi (broadcastInDim S513 ![] bcast_S_S513 (id (constantI S_ 32 0#32)))
      (subi (iotaInDim S513 32 0) (broadcastInDim S513 ![] bcast_S_S513 (constantI S_ 32 1#32))))

theorem above0_at (i : Fin 513) : (above0 (ValueIdx.ix1 i)).toInt.toNat = i.val - 1 := by
  have e : above0 (ValueIdx.ix1 i) =
      IntOp.minsi 511#32 (IntOp.maxsi 0#32 (IntOp.subi (BitVec.ofNat 32 i.val) 1#32)) := rfl
  have h1 : (1#32 : BitVec 32).toInt = 1 := rfl
  have hi := i.isLt
  rw [e, clip (toInt_sub (toInt_ofNat (n := i.val) (by omega)) h1 (by omega) (by omega)) (by omega)]
  omega

/-- The first anti-diagonal. -/
def first : FVec Ideal S256x513 .f32 :=
  Host.scatter scatter_S256x513_S1_S256_0_1_1_0 (fun _ b => b)
    (broadcastInDim S256x513 ![] bcast_S_S256x513 (constant S_ .f32 0x7F800000#32))
    (broadcastInDim S1 ![] bcast_S_S1 (constantI S_ 32 0#32))
    (broadcastInDim S256 ![] bcast_S_S256 (constant S_ .f32 0x00000000#32))

/-- Where its zeros land: in the first column. -/
theorem first_lands (k : S256.Idx) (i : S256x513.Idx) :
    scatter_S256x513_S1_S256_0_1_1_0.resultIdx? k (broadcastInDim S1 ![] bcast_S_S1 (constantI S_ 32 0#32)) = some i
      ↔ ((k 0).val : ℤ) = ((i 0).val : ℤ) ∧ (0 : ℤ) = ((i 1).val : ℤ) := by
  rw [Routing.resultIdx?_eq_some]
  constructor
  · intro h
    have h0 := h 0
    have e : scatter_S256x513_S1_S256_0_1_1_0.start k (broadcastInDim S1 ![] bcast_S_S1 (constantI S_ 32 0#32)) 0 = 0 := rfl
    have e2 : scatter_S256x513_S1_S256_0_1_1_0.window k 0 = (k 0).val := rfl
    have h1 := h 1
    have e3 : scatter_S256x513_S1_S256_0_1_1_0.start k (broadcastInDim S1 ![] bcast_S_S1 (constantI S_ 32 0#32)) 1 = 0 := rfl
    have e4 : scatter_S256x513_S1_S256_0_1_1_0.window k 1 = 0 := rfl
    rw [e, e2] at h0
    rw [e3, e4] at h1
    exact ⟨by omega, by omega⟩
  · intro h a
    match a with
    | ⟨0, _⟩ =>
      refine Eq.trans ?_ h.1
      show (0 : ℤ) + ((k 0).val : ℤ) = _
      omega
    | ⟨1, _⟩ =>
      refine Eq.trans ?_ h.2
      rfl

theorem first_at (x y : ℕ → EReal) (b : Fin 256) (i : Fin 513) : first (ValueIdx.ix2 b i) = R x y 0 i.val := by
  rw [R.eq_1]
  by_cases hi : i.val = 0
  · rw [if_pos hi]
    refine Routing.scatter_set_hit _ _ _ _ _ _ (fun k _ => ?_) (ValueIdx.ix1 b) ((first_lands _ _).2 ⟨rfl, ?_⟩)
    · exact Ideal.ofBits_zero_f32
    · show (0 : ℤ) = (i.val : ℤ)
      omega
  · rw [if_neg hi]
    refine (Routing.scatter_set_miss _ _ _ _ _ (fun k hk => ?_)).trans ofBits_inf
    have h : (0 : ℤ) = (i.val : ℤ) := ((first_lands _ _).1 hk).2
    omega

/-- The two diagonals the loop starts from. -/
def pair0 : FVec Ideal S2x256x513 .f32 :=
  concatenate S2x256x513 0 [⟨S1x256x513, broadcastInDim S1x256x513 ![1, 2] bcast_S256x513_S1x256x513_1_2 first⟩,
    ⟨S1x256x513, broadcastInDim S1x256x513 ![1, 2] bcast_S256x513_S1x256x513_1_2
      (broadcastInDim S256x513 ![] bcast_S_S256x513 (constant S_ .f32 0x7F800000#32))⟩]
    concatenates_S1x256x513_S1x256x513_S2x256x513_d0

/-! ### The loop's entry -/

variable (m : (ℓ : Loc nD τ sig) → Buf (Elt Ideal) ℓ) (c : Dev nD)

/-- The two arguments. -/
abbrev argX : FVec Ideal S256x512 .f32 := m ((c.tc : Thread nD τ).loc main_arg0)
abbrev argY : FVec Ideal S256x512 .f32 := m ((c.tc : Thread nD τ).loc main_arg1)

theorem entry_rows : rowsOf (entryContents preI m c) = iotaInDim S513 32 0 := by
  unfold rowsOf entryContents
  simp only [preI, afterL_cons, afterL_nil, hostOps0, hostOps0_1, hostOps0_2]
  after_results_entrywise []

theorem entry_above : aboveOf (entryContents preI m c) = above0 := by
  unfold aboveOf entryContents above0
  simp only [preI, afterL_cons, afterL_nil, hostOps0, hostOps0_1, hostOps0_2]
  after_results_entrywise []

theorem entry_table : tableOf (entryContents preI m c) = table0 (argX m c) (argY m c) := by
  unfold tableOf entryContents table0
  simp only [preI, afterL_cons, afterL_nil, hostOps0, hostOps0_1, hostOps0_2]
  after_results_entrywise []

theorem entry_count : countOf (entryContents preI m c) = fun _ => BitVec.ofNat 32 (0 + 2) := by
  unfold countOf entryContents
  simp only [preI, afterL_cons, afterL_nil, hostOps0, hostOps0_1, hostOps0_2]
  after_results_entrywise []

set_option maxHeartbeats 2000000 in
theorem entry_pair : pairOf (entryContents preI m c) = pair0 := by
  unfold pairOf entryContents pair0 first
  simp only [preI, afterL_cons, afterL_nil, hostOps0, hostOps0_1, hostOps0_2]
  after_results_entrywise []

theorem entry : Inv (argX m c) (argY m c) 0 (entryContents preI m c) where
  rows i := by
    rw [entry_rows]
    rfl
  above i := by
    rw [entry_above]
    exact above0_at i
  table b i j := by
    rw [entry_table]
    exact table0_at _ _ b i j
  count := entry_count m c
  older b i := by
    rw [entry_pair, pair0, stack0_at]
    exact first_at _ _ b i
  newer b i := by
    rw [entry_pair, pair0, stack1_at, R.eq_2]
    exact ofBits_inf

/-! ### The result -/

/-- The last cell of the newer diagonal, for each sequence of the batch. -/
theorem last_at (A : FVec Ideal S2x256x513 .f32) (i : S256.Idx) :
    shapeCast S256 (extractStridedSlice S1x256x1 ![1, 0, 512] A slices_S2x256x513_S1x256x1_1_0_512) shapeCasts_S1x256x1_S256 i
      = A (ValueIdx.ix3 (1 : Fin 2) (i 0) (512 : Fin 513)) := by
  refine (shapeCast_apply _ _ i (ValueIdx.ix3 (0 : Fin 1) (i 0) (0 : Fin 1)) ?_).trans (extractStridedSlice_apply _ _ _ _ _ ?_)
  · rw [Shape.rowMajor_val_three, Shape.rowMajor_val_one]
    show (0 * 256 + (i 0).val) * 1 + 0 = (i 0).val
    omega
  · intro z
    match z with
    | ⟨0, _⟩ => rfl
    | ⟨1, _⟩ => exact (Nat.zero_add _).symm
    | ⟨2, _⟩ => rfl

/-- The mean, as the operations after the loop compute it. -/
theorem mean_eq (v : FVec Ideal S256 .f32) :
    Host.divf (Host.reduceAdd (Host.divf v (broadcastInDim S256 ![] bcast_S_S256 (constant S_ .f32 0x44800000#32)))
      (constant S_ .f32 0x00000000#32) reducesTo_S256_S_d0 h_S_) (constant S_ .f32 0x43800000#32) = mean v := rfl

theorem out_eq {x y : FVec Ideal S256x512 .f32} {V : Valuation τ sig (Elt Ideal)} (h : Inv x y 1023 V) :
    out_main_v25 V = result x y := by
  unfold out_main_v25
  refine (mean_eq _).trans (congrArg mean (funext fun i => ?_))
  exact (last_at (pairOf V) i).trans (h.newer (i 0) 512)

theorem loop_out : out_main_v25 (STEP^[1023] (entryContents preI m c)) = result (argX m c) (argY m c) :=
  out_eq (steps (entry m c) 1023 le_rfl)

/-- The idealized reference returns `result` and leaves its arguments unchanged. -/
theorem reference_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = result (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (loop_out m c), (h c).2⟩) (run m ρ)

end Sdtw.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Sdtw.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and ends with every semaphore at zero: it has none. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Sdtw.Ref.reference_run m ρ)

/-- The constants of the idealized kernel are the named ones. -/
theorem preserves : Cert.preserves_Kernel_KernelIdeal :=
  ⟨IdealRules.named_const.statement Cert.KernelIdeal.κ "scale" .f32 0x4166D4CA#32 _ rfl,
   IdealRules.named_const.statement Cert.KernelIdeal.κ "boundary" .f32 0xCB5C2346#32 _ rfl,
   IdealRules.named_const.statement Cert.KernelIdeal.κ "inv_ln2" .f32 0x3FB8AA3B#32 _ rfl,
   IdealRules.named_const.statement Cert.KernelIdeal.κ "unscale" .f32 0xBD8DF4E0#32 _ rfl⟩

/-- Both programs return the mean over the batch of the last cell of the soft-DTW table. -/
theorem algebraic : Cert.algebraic_KernelIdeal_ReferenceIdeal := fun m g m' g' _ h =>
  ⟨fun c => Sdtw.result (Sdtw.argX m c) (Sdtw.argY m c), Sdtw.kernel_run m g,
    (θ_run _ _ _).mono (fun _ hr c => ⟨(hr c).1.trans (congrArg₂ Sdtw.result (h c).1 (h c).2), (hr c).2⟩)
      (Sdtw.Ref.reference_run m' g')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ri, preserves, algebraic⟩

end Cert.Proof

end
